-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "span" .f32 0x40000000#32 ((33554431 / 16777216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x224x224x8 : Shape := ⟨4, ![4, 224, 224, 8]⟩
abbrev S1 : Shape := ⟨1, ![1]⟩
abbrev S200704x8 : Shape := ⟨2, ![200704, 8]⟩
abbrev S8x200704 : Shape := ⟨2, ![8, 200704]⟩
abbrev S8x1568x128 : Shape := ⟨3, ![8, 1568, 128]⟩
abbrev S9x1568x128 : Shape := ⟨3, ![9, 1568, 128]⟩
abbrev S8x112x128 : Shape := ⟨3, ![8, 112, 128]⟩
abbrev S9x112x128 : Shape := ⟨3, ![9, 112, 128]⟩
abbrev S1x112x128 : Shape := ⟨3, ![1, 112, 128]⟩
abbrev S112x128 : Shape := ⟨2, ![112, 128]⟩
abbrev S9x200704 : Shape := ⟨2, ![9, 200704]⟩
abbrev S200704x9 : Shape := ⟨2, ![200704, 9]⟩
abbrev S4x224x224x9 : Shape := ⟨4, ![4, 224, 224, 9]⟩

abbrev nBuf : Space → Nat
  | .hbm => 18
  | .vmem => 9
  | .smem => 2
  | _ => 0

abbrev bufTy : (tb : Table) → Fin (tcTables nBuf tb) → BufTy
  | .hbm, ⟨0, _⟩ => ⟨S4x224x224x8, .f32⟩
  | .hbm, ⟨1, _⟩ => ⟨S1, .f32⟩
  | .hbm, ⟨2, _⟩ => ⟨S1, .f32⟩
  | .hbm, ⟨3, _⟩ => ⟨S4x224x224x8, .f32⟩
  | .hbm, ⟨4, _⟩ => ⟨S4x224x224x8, .f32⟩
  | .hbm, ⟨5, _⟩ => ⟨S200704x8, .f32⟩
  | .hbm, ⟨6, _⟩ => ⟨S8x200704, .f32⟩
  | .hbm, ⟨7, _⟩ => ⟨S8x1568x128, .f32⟩
  | .hbm, ⟨8, _⟩ => ⟨S200704x8, .f32⟩
  | .hbm, ⟨9, _⟩ => ⟨S8x200704, .f32⟩
  | .hbm, ⟨10, _⟩ => ⟨S8x1568x128, .f32⟩
  | .hbm, ⟨11, _⟩ => ⟨S200704x8, .f32⟩
  | .hbm, ⟨12, _⟩ => ⟨S8x200704, .f32⟩
  | .hbm, ⟨13, _⟩ => ⟨S8x1568x128, .f32⟩
  | .hbm, ⟨14, _⟩ => ⟨S9x1568x128, .f32⟩
  | .hbm, ⟨15, _⟩ => ⟨S9x200704, .f32⟩
  | .hbm, ⟨16, _⟩ => ⟨S200704x9, .f32⟩
  | .hbm, ⟨17, _⟩ => ⟨S4x224x224x9, .f32⟩
  | .local _ .vmem, ⟨0, _⟩ => ⟨S8x112x128, .f32⟩
  | .local _ .vmem, ⟨1, _⟩ => ⟨S8x112x128, .f32⟩
  | .local _ .vmem, ⟨2, _⟩ => ⟨S8x112x128, .f32⟩
  | .local _ .vmem, ⟨3, _⟩ => ⟨S8x112x128, .f32⟩
  | .local _ .vmem, ⟨4, _⟩ => ⟨S8x112x128, .f32⟩
  | .local _ .vmem, ⟨5, _⟩ => ⟨S8x112x128, .f32⟩
  | .local _ .vmem, ⟨6, _⟩ => ⟨S9x112x128, .f32⟩
  | .local _ .vmem, ⟨7, _⟩ => ⟨S9x112x128, .f32⟩
  | .local _ .vmem, ⟨8, _⟩ => ⟨S9x112x128, .f32⟩
  | .local _ .smem, ⟨0, _⟩ => ⟨S1, .f32⟩
  | .local _ .smem, ⟨1, _⟩ => ⟨S1, .f32⟩
  | _, _ => ⟨S4x224x224x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![14, 16], ![false, false]⟩

def k0_cond2 (i : grid0.Coords) : BitVec 1 :=
  let arg1 : BitVec 32 := BitVec.ofNat 32 (i 1).val
  let c0_i32_811 : BitVec 32 := 0#32
  let v2338 : BitVec 1 := Scalar.cmpi .eq arg1 c0_i32_811
  let v2339 : BitVec 32 := Scalar.extui v2338
  let c0_i32_812 : BitVec 32 := 0#32
  let v2340 : BitVec 1 := Scalar.cmpi .ne v2339 c0_i32_812
  v2340

def k0_cond3 (i : grid0.Coords) : BitVec 1 :=
  let arg1 : BitVec 32 := BitVec.ofNat 32 (i 1).val
  let c0_i32_813 : BitVec 32 := 0#32
  let v2341 : BitVec 1 := Scalar.cmpi .sgt arg1 c0_i32_813
  let c15_i32_814 : BitVec 32 := 15#32
  let v2342 : BitVec 1 := Scalar.cmpi .slt arg1 c15_i32_814
  let v2343 : BitVec 1 := Scalar.andi v2341 v2342
  let v2344 : BitVec 32 := Scalar.extui v2343
  let c0_i32_815 : BitVec 32 := 0#32
  let v2345 : BitVec 1 := Scalar.cmpi .ne v2344 c0_i32_815
  v2345

def k0_cond4 (i : grid0.Coords) : BitVec 1 :=
  let arg1 : BitVec 32 := BitVec.ofNat 32 (i 1).val
  let c15_i32_816 : BitVec 32 := 15#32
  let v2346 : BitVec 1 := Scalar.cmpi .eq arg1 c15_i32_816
  let v2347 : BitVec 32 := Scalar.extui v2346
  let c0_i32_817 : BitVec 32 := 0#32
  let v2348 : BitVec 1 := Scalar.cmpi .ne v2347 c0_i32_817
  v2348

def k0_cond5 (i : grid0.Coords) : BitVec 1 :=
  let arg1 : BitVec 32 := BitVec.ofNat 32 (i 1).val
  let c0_i32_819 : BitVec 32 := 0#32
  let v2353 : BitVec 1 := Scalar.cmpi .eq arg1 c0_i32_819
  let v2354 : BitVec 32 := Scalar.extui v2353
  let c0_i32_820 : BitVec 32 := 0#32
  let v2355 : BitVec 1 := Scalar.cmpi .ne v2354 c0_i32_820
  v2355

def k0_cond6 (i : grid0.Coords) : BitVec 1 :=
  let arg1 : BitVec 32 := BitVec.ofNat 32 (i 1).val
  let c0_i32_821 : BitVec 32 := 0#32
  let v2356 : BitVec 1 := Scalar.cmpi .sgt arg1 c0_i32_821
  let c15_i32_822 : BitVec 32 := 15#32
  let v2357 : BitVec 1 := Scalar.cmpi .slt arg1 c15_i32_822
  let v2358 : BitVec 1 := Scalar.andi v2356 v2357
  let v2359 : BitVec 32 := Scalar.extui v2358
  let c0_i32_823 : BitVec 32 := 0#32
  let v2360 : BitVec 1 := Scalar.cmpi .ne v2359 c0_i32_823
  v2360

def k0_cond7 (i : grid0.Coords) : BitVec 1 :=
  let arg1 : BitVec 32 := BitVec.ofNat 32 (i 1).val
  let c15_i32_824 : BitVec 32 := 15#32
  let v2361 : BitVec 1 := Scalar.cmpi .eq arg1 c15_i32_824
  let v2362 : BitVec 32 := Scalar.extui v2361
  let c0_i32_825 : BitVec 32 := 0#32
  let v2363 : BitVec 1 := Scalar.cmpi .ne v2362 c0_i32_825
  v2363

def k0_cond8 (i : grid0.Coords) : BitVec 1 :=
  let arg1 : BitVec 32 := BitVec.ofNat 32 (i 1).val
  let c0_i32_827 : BitVec 32 := 0#32
  let v2368 : BitVec 1 := Scalar.cmpi .eq arg1 c0_i32_827
  let v2369 : BitVec 32 := Scalar.extui v2368
  let c0_i32_828 : BitVec 32 := 0#32
  let v2370 : BitVec 1 := Scalar.cmpi .ne v2369 c0_i32_828
  v2370

def k0_cond9 (i : grid0.Coords) : BitVec 1 :=
  let arg1 : BitVec 32 := BitVec.ofNat 32 (i 1).val
  let c0_i32_829 : BitVec 32 := 0#32
  let v2371 : BitVec 1 := Scalar.cmpi .sgt arg1 c0_i32_829
  let c15_i32_830 : BitVec 32 := 15#32
  let v2372 : BitVec 1 := Scalar.cmpi .slt arg1 c15_i32_830
  let v2373 : BitVec 1 := Scalar.andi v2371 v2372
  let v2374 : BitVec 32 := Scalar.extui v2373
  let c0_i32_831 : BitVec 32 := 0#32
  let v2375 : BitVec 1 := Scalar.cmpi .ne v2374 c0_i32_831
  v2375

def k0_cond10 (i : grid0.Coords) : BitVec 1 :=
  let arg1 : BitVec 32 := BitVec.ofNat 32 (i 1).val
  let c15_i32_832 : BitVec 32 := 15#32
  let v2376 : BitVec 1 := Scalar.cmpi .eq arg1 c15_i32_832
  let v2377 : BitVec 32 := Scalar.extui v2376
  let c0_i32_833 : BitVec 32 := 0#32
  let v2378 : BitVec 1 := Scalar.cmpi .ne v2377 c0_i32_833
  v2378

def k0_cond11 (i : grid0.Coords) : BitVec 1 :=
  let arg1 : BitVec 32 := BitVec.ofNat 32 (i 1).val
  let c0_i32_835 : BitVec 32 := 0#32
  let v2383 : BitVec 1 := Scalar.cmpi .eq arg1 c0_i32_835
  let v2384 : BitVec 32 := Scalar.extui v2383
  let c0_i32_836 : BitVec 32 := 0#32
  let v2385 : BitVec 1 := Scalar.cmpi .ne v2384 c0_i32_836
  v2385

def k0_cond12 (i : grid0.Coords) : BitVec 1 :=
  let arg1 : BitVec 32 := BitVec.ofNat 32 (i 1).val
  let c0_i32_837 : BitVec 32 := 0#32
  let v2386 : BitVec 1 := Scalar.cmpi .sgt arg1 c0_i32_837
  let c15_i32_838 : BitVec 32 := 15#32
  let v2387 : BitVec 1 := Scalar.cmpi .slt arg1 c15_i32_838
  let v2388 : BitVec 1 := Scalar.andi v2386 v2387
  let v2389 : BitVec 32 := Scalar.extui v2388
  let c0_i32_839 : BitVec 32 := 0#32
  let v2390 : BitVec 1 := Scalar.cmpi .ne v2389 c0_i32_839
  v2390

def k0_cond13 (i : grid0.Coords) : BitVec 1 :=
  let arg1 : BitVec 32 := BitVec.ofNat 32 (i 1).val
  let c15_i32_840 : BitVec 32 := 15#32
  let v2391 : BitVec 1 := Scalar.cmpi .eq arg1 c15_i32_840
  let v2392 : BitVec 32 := Scalar.extui v2391
  let c0_i32_841 : BitVec 32 := 0#32
  let v2393 : BitVec 1 := Scalar.cmpi .ne v2392 c0_i32_841
  v2393

def k0_cond14 (i : grid0.Coords) : BitVec 1 :=
  let arg1 : BitVec 32 := BitVec.ofNat 32 (i 1).val
  let c0_i32_843 : BitVec 32 := 0#32
  let v2398 : BitVec 1 := Scalar.cmpi .eq arg1 c0_i32_843
  let v2399 : BitVec 32 := Scalar.extui v2398
  let c0_i32_844 : BitVec 32 := 0#32
  let v2400 : BitVec 1 := Scalar.cmpi .ne v2399 c0_i32_844
  v2400

def k0_cond15 (i : grid0.Coords) : BitVec 1 :=
  let arg1 : BitVec 32 := BitVec.ofNat 32 (i 1).val
  let c0_i32_845 : BitVec 32 := 0#32
  let v2401 : BitVec 1 := Scalar.cmpi .sgt arg1 c0_i32_845
  let c15_i32_846 : BitVec 32 := 15#32
  let v2402 : BitVec 1 := Scalar.cmpi .slt arg1 c15_i32_846
  let v2403 : BitVec 1 := Scalar.andi v2401 v2402
  let v2404 : BitVec 32 := Scalar.extui v2403
  let c0_i32_847 : BitVec 32 := 0#32
  let v2405 : BitVec 1 := Scalar.cmpi .ne v2404 c0_i32_847
  v2405

def k0_cond16 (i : grid0.Coords) : BitVec 1 :=
  let arg1 : BitVec 32 := BitVec.ofNat 32 (i 1).val
  let c15_i32_848 : BitVec 32 := 15#32
  let v2406 : BitVec 1 := Scalar.cmpi .eq arg1 c15_i32_848
  let v2407 : BitVec 32 := Scalar.extui v2406
  let c0_i32_849 : BitVec 32 := 0#32
  let v2408 : BitVec 1 := Scalar.cmpi .ne v2407 c0_i32_849
  v2408

def k0_cond17 (i : grid0.Coords) : BitVec 1 :=
  let arg1 : BitVec 32 := BitVec.ofNat 32 (i 1).val
  let c0_i32_851 : BitVec 32 := 0#32
  let v2413 : BitVec 1 := Scalar.cmpi .eq arg1 c0_i32_851
  let v2414 : BitVec 32 := Scalar.extui v2413
  let c0_i32_852 : BitVec 32 := 0#32
  let v2415 : BitVec 1 := Scalar.cmpi .ne v2414 c0_i32_852
  v2415

def k0_cond18 (i : grid0.Coords) : BitVec 1 :=
  let arg1 : BitVec 32 := BitVec.ofNat 32 (i 1).val
  let c0_i32_853 : BitVec 32 := 0#32
  let v2416 : BitVec 1 := Scalar.cmpi .sgt arg1 c0_i32_853
  let c15_i32_854 : BitVec 32 := 15#32
  let v2417 : BitVec 1 := Scalar.cmpi .slt arg1 c15_i32_854
  let v2418 : BitVec 1 := Scalar.andi v2416 v2417
  let v2419 : BitVec 32 := Scalar.extui v2418
  let c0_i32_855 : BitVec 32 := 0#32
  let v2420 : BitVec 1 := Scalar.cmpi .ne v2419 c0_i32_855
  v2420

def k0_cond19 (i : grid0.Coords) : BitVec 1 :=
  let arg1 : BitVec 32 := BitVec.ofNat 32 (i 1).val
  let c15_i32_856 : BitVec 32 := 15#32
  let v2421 : BitVec 1 := Scalar.cmpi .eq arg1 c15_i32_856
  let v2422 : BitVec 32 := Scalar.extui v2421
  let c0_i32_857 : BitVec 32 := 0#32
  let v2423 : BitVec 1 := Scalar.cmpi .ne v2422 c0_i32_857
  v2423

def k0_cond20 (i : grid0.Coords) : BitVec 1 :=
  let arg1 : BitVec 32 := BitVec.ofNat 32 (i 1).val
  let c0_i32_859 : BitVec 32 := 0#32
  let v2428 : BitVec 1 := Scalar.cmpi .eq arg1 c0_i32_859
  let v2429 : BitVec 32 := Scalar.extui v2428
  let c0_i32_860 : BitVec 32 := 0#32
  let v2430 : BitVec 1 := Scalar.cmpi .ne v2429 c0_i32_860
  v2430

def k0_cond21 (i : grid0.Coords) : BitVec 1 :=
  let arg1 : BitVec 32 := BitVec.ofNat 32 (i 1).val
  let c0_i32_861 : BitVec 32 := 0#32
  let v2431 : BitVec 1 := Scalar.cmpi .sgt arg1 c0_i32_861
  let c15_i32_862 : BitVec 32 := 15#32
  let v2432 : BitVec 1 := Scalar.cmpi .slt arg1 c15_i32_862
  let v2433 : BitVec 1 := Scalar.andi v2431 v2432
  let v2434 : BitVec 32 := Scalar.extui v2433
  let c0_i32_863 : BitVec 32 := 0#32
  let v2435 : BitVec 1 := Scalar.cmpi .ne v2434 c0_i32_863
  v2435

def k0_cond22 (i : grid0.Coords) : BitVec 1 :=
  let arg1 : BitVec 32 := BitVec.ofNat 32 (i 1).val
  let c15_i32_864 : BitVec 32 := 15#32
  let v2436 : BitVec 1 := Scalar.cmpi .eq arg1 c15_i32_864
  let v2437 : BitVec 32 := Scalar.extui v2436
  let c0_i32_865 : BitVec 32 := 0#32
  let v2438 : BitVec 1 := Scalar.cmpi .ne v2437 c0_i32_865
  v2438

def k0_cond23 (i : grid0.Coords) : BitVec 1 :=
  let arg1 : BitVec 32 := BitVec.ofNat 32 (i 1).val
  let c0_i32_867 : BitVec 32 := 0#32
  let v2443 : BitVec 1 := Scalar.cmpi .eq arg1 c0_i32_867
  let v2444 : BitVec 32 := Scalar.extui v2443
  let c0_i32_868 : BitVec 32 := 0#32
  let v2445 : BitVec 1 := Scalar.cmpi .ne v2444 c0_i32_868
  v2445

def k0_cond24 (i : grid0.Coords) : BitVec 1 :=
  let arg1 : BitVec 32 := BitVec.ofNat 32 (i 1).val
  let c0_i32_869 : BitVec 32 := 0#32
  let v2446 : BitVec 1 := Scalar.cmpi .sgt arg1 c0_i32_869
  let c15_i32_870 : BitVec 32 := 15#32
  let v2447 : BitVec 1 := Scalar.cmpi .slt arg1 c15_i32_870
  let v2448 : BitVec 1 := Scalar.andi v2446 v2447
  let v2449 : BitVec 32 := Scalar.extui v2448
  let c0_i32_871 : BitVec 32 := 0#32
  let v2450 : BitVec 1 := Scalar.cmpi .ne v2449 c0_i32_871
  v2450

def k0_cond25 (i : grid0.Coords) : BitVec 1 :=
  let arg1 : BitVec 32 := BitVec.ofNat 32 (i 1).val
  let c15_i32_872 : BitVec 32 := 15#32
  let v2451 : BitVec 1 := Scalar.cmpi .eq arg1 c15_i32_872
  let v2452 : BitVec 32 := Scalar.extui v2451
  let c0_i32_873 : BitVec 32 := 0#32
  let v2453 : BitVec 1 := Scalar.cmpi .ne v2452 c0_i32_873
  v2453

def k0_cond26 (i : grid0.Coords) : BitVec 1 :=
  let arg1 : BitVec 32 := BitVec.ofNat 32 (i 1).val
  let c0_i32_875 : BitVec 32 := 0#32
  let v2458 : BitVec 1 := Scalar.cmpi .eq arg1 c0_i32_875
  let v2459 : BitVec 32 := Scalar.extui v2458
  let c0_i32_876 : BitVec 32 := 0#32
  let v2460 : BitVec 1 := Scalar.cmpi .ne v2459 c0_i32_876
  v2460

def k0_cond27 (i : grid0.Coords) : BitVec 1 :=
  let arg1 : BitVec 32 := BitVec.ofNat 32 (i 1).val
  let c0_i32_877 : BitVec 32 := 0#32
  let v2461 : BitVec 1 := Scalar.cmpi .sgt arg1 c0_i32_877
  let c15_i32_878 : BitVec 32 := 15#32
  let v2462 : BitVec 1 := Scalar.cmpi .slt arg1 c15_i32_878
  let v2463 : BitVec 1 := Scalar.andi v2461 v2462
  let v2464 : BitVec 32 := Scalar.extui v2463
  let c0_i32_879 : BitVec 32 := 0#32
  let v2465 : BitVec 1 := Scalar.cmpi .ne v2464 c0_i32_879
  v2465

def k0_cond28 (i : grid0.Coords) : BitVec 1 :=
  let arg1 : BitVec 32 := BitVec.ofNat 32 (i 1).val
  let c15_i32_880 : BitVec 32 := 15#32
  let v2466 : BitVec 1 := Scalar.cmpi .eq arg1 c15_i32_880
  let v2467 : BitVec 32 := Scalar.extui v2466
  let c0_i32_881 : BitVec 32 := 0#32
  let v2468 : BitVec 1 := Scalar.cmpi .ne v2467 c0_i32_881
  v2468

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x112x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S9x112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "span" => some ((33554431 / 16777216 : ℝ) : EReal)
  | _ => none
-- ==== ReferenceIdeal.lean ====
abbrev S4x224x224x8 : Shape := ⟨4, ![4, 224, 224, 8]⟩
abbrev S1 : Shape := ⟨1, ![1]⟩
abbrev S1x1x1x1 : Shape := ⟨4, ![1, 1, 1, 1]⟩
abbrev S_ : Shape := ⟨0, ![]⟩
abbrev S4x224x224 : Shape := ⟨3, ![4, 224, 224]⟩
abbrev S4x224x224x1 : Shape := ⟨4, ![4, 224, 224, 1]⟩
abbrev S4x224x224x9 : Shape := ⟨4, ![4, 224, 224, 9]⟩
abbrev S2 : Shape := ⟨1, ![2]⟩
abbrev S1x1x1x1x1 : Shape := ⟨5, ![1, 1, 1, 1, 1]⟩
abbrev S16x4x224x224x9 : Shape := ⟨5, ![16, 4, 224, 224, 9]⟩
abbrev S1x4x224x224x9 : Shape := ⟨5, ![1, 4, 224, 224, 9]⟩
abbrev S16x4x224x224 : Shape := ⟨4, ![16, 4, 224, 224]⟩
abbrev S16x4x224x224x1 : Shape := ⟨5, ![16, 4, 224, 224, 1]⟩
abbrev S1x1x1x1x9 : Shape := ⟨5, ![1, 1, 1, 1, 9]⟩

abbrev nBuf : Space → Nat
  | .hbm => 440
  | .vmem => 0
  | .smem => 0
  | _ => 0

abbrev hbmTy0_0 (i : Nat) : BufTy := match i % 128 with
  | 0 => ⟨S4x224x224x8, .f32⟩
  | 1 => ⟨S1, .f32⟩
  | 2 => ⟨S1, .f32⟩
  | 3 => ⟨S4x224x224x8, .f32⟩
  | 4 => ⟨S4x224x224x8, .f32⟩
  | 5 => ⟨S1x1x1x1, .f32⟩
  | 6 => ⟨S4x224x224x8, .f32⟩
  | 7 => ⟨S4x224x224x8, .f32⟩
  | 8 => ⟨S1, .f32⟩
  | 9 => ⟨S1x1x1x1, .f32⟩
  | 10 => ⟨S4x224x224x8, .f32⟩
  | 11 => ⟨S4x224x224x8, .f32⟩
  | 12 => ⟨S4x224x224x8, .f32⟩
  | 13 => ⟨S_, .f32⟩
  | 14 => ⟨S4x224x224, .f32⟩
  | 15 => ⟨S4x224x224x1, .f32⟩
  | 16 => ⟨S_, .f32⟩
  | 17 => ⟨S_, .f32⟩
  | 18 => ⟨S4x224x224x1, .f32⟩
  | 19 => ⟨S4x224x224x1, .f32⟩
  | 20 => ⟨S4x224x224x8, .f32⟩
  | 21 => ⟨S_, .f32⟩
  | 22 => ⟨S4x224x224x8, .f32⟩
  | 23 => ⟨S4x224x224x8, .f32⟩
  | 24 => ⟨S4x224x224x8, .f32⟩
  | 25 => ⟨S4x224x224x8, .f32⟩
  | 26 => ⟨S4x224x224x8, .f32⟩
  | 27 => ⟨S_, .f32⟩
  | 28 => ⟨S4x224x224x1, .f32⟩
  | 29 => ⟨S_, .f32⟩
  | 30 => ⟨S4x224x224x1, .f32⟩
  | 31 => ⟨S4x224x224x1, .f32⟩
  | 32 => ⟨S4x224x224x1, .f32⟩
  | 33 => ⟨S4x224x224x9, .f32⟩
  | 34 => ⟨S_, .i32⟩
  | 35 => ⟨S_, .i32⟩
  | 36 => ⟨S_, .i32⟩
  | 37 => ⟨S_, .i32⟩
  | 38 => ⟨S1, .i32⟩
  | 39 => ⟨S_, .i32⟩
  | 40 => ⟨S_, .i32⟩
  | 41 => ⟨S_, .i32⟩
  | 42 => ⟨S1, .i32⟩
  | 43 => ⟨S2, .i32⟩
  | 44 => ⟨S_, .f32⟩
  | 45 => ⟨S_, .f32⟩
  | 46 => ⟨S_, .f32⟩
  | 47 => ⟨S1x1x1x1x1, .f32⟩
  | 48 => ⟨S1x1x1x1x1, .f32⟩
  | 49 => ⟨S1, .i32⟩
  | 50 => ⟨S_, .i32⟩
  | 51 => ⟨S1, .i32⟩
  | 52 => ⟨S_, .i32⟩
  | 53 => ⟨S16x4x224x224x9, .i64⟩
  | 54 => ⟨S16x4x224x224x9, .i64⟩
  | 55 => ⟨S16x4x224x224x9, .i64⟩
  | 56 => ⟨S16x4x224x224x9, .i64⟩
  | 57 => ⟨S16x4x224x224x9, .i64⟩
  | 58 => ⟨S_, .i64⟩
  | 59 => ⟨S16x4x224x224x9, .i64⟩
  | 60 => ⟨S16x4x224x224x9, .i64⟩
  | 61 => ⟨S_, .i64⟩
  | 62 => ⟨S16x4x224x224x9, .i64⟩
  | 63 => ⟨S16x4x224x224x9, .i64⟩
  | 64 => ⟨S_, .i64⟩
  | 65 => ⟨S16x4x224x224x9, .i64⟩
  | 66 => ⟨S16x4x224x224x9, .i64⟩
  | 67 => ⟨S_, .i64⟩
  | 68 => ⟨S16x4x224x224x9, .i64⟩
  | 69 => ⟨S16x4x224x224x9, .i64⟩
  | 70 => ⟨S_, .i64⟩
  | 71 => ⟨S16x4x224x224x9, .i64⟩
  | 72 => ⟨S16x4x224x224x9, .i64⟩
  | 73 => ⟨S16x4x224x224x9, .i64⟩
  | 74 => ⟨S16x4x224x224x9, .i64⟩
  | 75 => ⟨S16x4x224x224x9, .i64⟩
  | 76 => ⟨S16x4x224x224x9, .i64⟩
  | 77 => ⟨S_, .i64⟩
  | 78 => ⟨S16x4x224x224x9, .i64⟩
  | 79 => ⟨S16x4x224x224x9, .i64⟩
  | 80 => ⟨S16x4x224x224x9, .i32⟩
  | 81 => ⟨S16x4x224x224x9, .i32⟩
  | 82 => ⟨S_, .i32⟩
  | 83 => ⟨S_, .i32⟩
  | 84 => ⟨S_, .i32⟩
  | 85 => ⟨S16x4x224x224x9, .i32⟩
  | 86 => ⟨S16x4x224x224x9, .i32⟩
  | 87 => ⟨S16x4x224x224x9, .i32⟩
  | 88 => ⟨S16x4x224x224x9, .i32⟩
  | 89 => ⟨S16x4x224x224x9, .i32⟩
  | 90 => ⟨S_, .i32⟩
  | 91 => ⟨S16x4x224x224x9, .i32⟩
  | 92 => ⟨S16x4x224x224x9, .i32⟩
  | 93 => ⟨S_, .i32⟩
  | 94 => ⟨S16x4x224x224x9, .i32⟩
  | 95 => ⟨S16x4x224x224x9, .i32⟩
  | 96 => ⟨S16x4x224x224x9, .i32⟩
  | 97 => ⟨S16x4x224x224x9, .i32⟩
  | 98 => ⟨S16x4x224x224x9, .i32⟩
  | 99 => ⟨S_, .i32⟩
  | 100 => ⟨S16x4x224x224x9, .i32⟩
  | 101 => ⟨S16x4x224x224x9, .i32⟩
  | 102 => ⟨S_, .i32⟩
  | 103 => ⟨S16x4x224x224x9, .i32⟩
  | 104 => ⟨S16x4x224x224x9, .i32⟩
  | 105 => ⟨S16x4x224x224x9, .i32⟩
  | 106 => ⟨S16x4x224x224x9, .i32⟩
  | 107 => ⟨S16x4x224x224x9, .i32⟩
  | 108 => ⟨S_, .i32⟩
  | 109 => ⟨S16x4x224x224x9, .i32⟩
  | 110 => ⟨S16x4x224x224x9, .i32⟩
  | 111 => ⟨S_, .i32⟩
  | 112 => ⟨S16x4x224x224x9, .i32⟩
  | 113 => ⟨S16x4x224x224x9, .i32⟩
  | 114 => ⟨S16x4x224x224x9, .i32⟩
  | 115 => ⟨S16x4x224x224x9, .i32⟩
  | 116 => ⟨S16x4x224x224x9, .i32⟩
  | 117 => ⟨S_, .i32⟩
  | 118 => ⟨S16x4x224x224x9, .i32⟩
  | 119 => ⟨S16x4x224x224x9, .i32⟩
  | 120 => ⟨S_, .i32⟩
  | 121 => ⟨S16x4x224x224x9, .i32⟩
  | 122 => ⟨S16x4x224x224x9, .i32⟩
  | 123 => ⟨S16x4x224x224x9, .i32⟩
  | 124 => ⟨S16x4x224x224x9, .i32⟩
  | 125 => ⟨S16x4x224x224x9, .i32⟩
  | 126 => ⟨S16x4x224x224x9, .i32⟩
  | 127 => ⟨S16x4x224x224x9, .i32⟩
  | _ => ⟨S4x224x224x8, .f32⟩

abbrev hbmTy0_1 (i : Nat) : BufTy := match i % 128 with
  | 0 => ⟨S16x4x224x224x9, .i32⟩
  | 1 => ⟨S_, .i32⟩
  | 2 => ⟨S16x4x224x224x9, .i32⟩
  | 3 => ⟨S16x4x224x224x9, .i32⟩
  | 4 => ⟨S16x4x224x224x9, .i32⟩
  | 5 => ⟨S_, .i32⟩
  | 6 => ⟨S16x4x224x224x9, .i32⟩
  | 7 => ⟨S16x4x224x224x9, .i32⟩
  | 8 => ⟨S_, .i32⟩
  | 9 => ⟨S16x4x224x224x9, .i32⟩
  | 10 => ⟨S16x4x224x224x9, .i32⟩
  | 11 => ⟨S16x4x224x224x9, .i32⟩
  | 12 => ⟨S16x4x224x224x9, .i32⟩
  | 13 => ⟨S16x4x224x224x9, .i32⟩
  | 14 => ⟨S_, .i32⟩
  | 15 => ⟨S16x4x224x224x9, .i32⟩
  | 16 => ⟨S16x4x224x224x9, .i32⟩
  | 17 => ⟨S_, .i32⟩
  | 18 => ⟨S16x4x224x224x9, .i32⟩
  | 19 => ⟨S16x4x224x224x9, .i32⟩
  | 20 => ⟨S16x4x224x224x9, .i32⟩
  | 21 => ⟨S16x4x224x224x9, .i32⟩
  | 22 => ⟨S16x4x224x224x9, .i32⟩
  | 23 => ⟨S_, .i32⟩
  | 24 => ⟨S16x4x224x224x9, .i32⟩
  | 25 => ⟨S16x4x224x224x9, .i32⟩
  | 26 => ⟨S_, .i32⟩
  | 27 => ⟨S16x4x224x224x9, .i32⟩
  | 28 => ⟨S16x4x224x224x9, .i32⟩
  | 29 => ⟨S16x4x224x224x9, .i32⟩
  | 30 => ⟨S16x4x224x224x9, .i32⟩
  | 31 => ⟨S16x4x224x224x9, .i32⟩
  | 32 => ⟨S_, .i32⟩
  | 33 => ⟨S16x4x224x224x9, .i32⟩
  | 34 => ⟨S16x4x224x224x9, .i32⟩
  | 35 => ⟨S_, .i32⟩
  | 36 => ⟨S16x4x224x224x9, .i32⟩
  | 37 => ⟨S16x4x224x224x9, .i32⟩
  | 38 => ⟨S16x4x224x224x9, .i32⟩
  | 39 => ⟨S16x4x224x224x9, .i32⟩
  | 40 => ⟨S16x4x224x224x9, .i32⟩
  | 41 => ⟨S16x4x224x224x9, .i32⟩
  | 42 => ⟨S16x4x224x224x9, .i32⟩
  | 43 => ⟨S16x4x224x224x9, .i32⟩
  | 44 => ⟨S_, .i32⟩
  | 45 => ⟨S16x4x224x224x9, .i32⟩
  | 46 => ⟨S16x4x224x224x9, .i32⟩
  | 47 => ⟨S16x4x224x224x9, .i32⟩
  | 48 => ⟨S_, .i32⟩
  | 49 => ⟨S16x4x224x224x9, .i32⟩
  | 50 => ⟨S16x4x224x224x9, .i32⟩
  | 51 => ⟨S_, .i32⟩
  | 52 => ⟨S16x4x224x224x9, .i32⟩
  | 53 => ⟨S16x4x224x224x9, .i32⟩
  | 54 => ⟨S16x4x224x224x9, .i32⟩
  | 55 => ⟨S16x4x224x224x9, .i32⟩
  | 56 => ⟨S16x4x224x224x9, .i32⟩
  | 57 => ⟨S_, .i32⟩
  | 58 => ⟨S16x4x224x224x9, .i32⟩
  | 59 => ⟨S16x4x224x224x9, .i32⟩
  | 60 => ⟨S_, .i32⟩
  | 61 => ⟨S16x4x224x224x9, .i32⟩
  | 62 => ⟨S16x4x224x224x9, .i32⟩
  | 63 => ⟨S16x4x224x224x9, .i32⟩
  | 64 => ⟨S16x4x224x224x9, .i32⟩
  | 65 => ⟨S16x4x224x224x9, .i32⟩
  | 66 => ⟨S_, .i32⟩
  | 67 => ⟨S16x4x224x224x9, .i32⟩
  | 68 => ⟨S16x4x224x224x9, .i32⟩
  | 69 => ⟨S_, .i32⟩
  | 70 => ⟨S16x4x224x224x9, .i32⟩
  | 71 => ⟨S16x4x224x224x9, .i32⟩
  | 72 => ⟨S16x4x224x224x9, .i32⟩
  | 73 => ⟨S16x4x224x224x9, .i32⟩
  | 74 => ⟨S16x4x224x224x9, .i32⟩
  | 75 => ⟨S_, .i32⟩
  | 76 => ⟨S16x4x224x224x9, .i32⟩
  | 77 => ⟨S16x4x224x224x9, .i32⟩
  | 78 => ⟨S_, .i32⟩
  | 79 => ⟨S16x4x224x224x9, .i32⟩
  | 80 => ⟨S16x4x224x224x9, .i32⟩
  | 81 => ⟨S16x4x224x224x9, .i32⟩
  | 82 => ⟨S16x4x224x224x9, .i32⟩
  | 83 => ⟨S16x4x224x224x9, .i32⟩
  | 84 => ⟨S16x4x224x224x9, .i32⟩
  | 85 => ⟨S16x4x224x224x9, .i32⟩
  | 86 => ⟨S16x4x224x224x9, .i32⟩
  | 87 => ⟨S_, .i32⟩
  | 88 => ⟨S16x4x224x224x9, .i32⟩
  | 89 => ⟨S16x4x224x224x9, .i32⟩
  | 90 => ⟨S16x4x224x224x9, .i32⟩
  | 91 => ⟨S_, .i32⟩
  | 92 => ⟨S16x4x224x224x9, .i32⟩
  | 93 => ⟨S16x4x224x224x9, .i32⟩
  | 94 => ⟨S_, .i32⟩
  | 95 => ⟨S16x4x224x224x9, .i32⟩
  | 96 => ⟨S16x4x224x224x9, .i32⟩
  | 97 => ⟨S16x4x224x224x9, .i32⟩
  | 98 => ⟨S16x4x224x224x9, .i32⟩
  | 99 => ⟨S16x4x224x224x9, .i32⟩
  | 100 => ⟨S_, .i32⟩
  | 101 => ⟨S16x4x224x224x9, .i32⟩
  | 102 => ⟨S16x4x224x224x9, .i32⟩
  | 103 => ⟨S_, .i32⟩
  | 104 => ⟨S16x4x224x224x9, .i32⟩
  | 105 => ⟨S16x4x224x224x9, .i32⟩
  | 106 => ⟨S16x4x224x224x9, .i32⟩
  | 107 => ⟨S16x4x224x224x9, .i32⟩
  | 108 => ⟨S16x4x224x224x9, .i32⟩
  | 109 => ⟨S_, .i32⟩
  | 110 => ⟨S16x4x224x224x9, .i32⟩
  | 111 => ⟨S16x4x224x224x9, .i32⟩
  | 112 => ⟨S_, .i32⟩
  | 113 => ⟨S16x4x224x224x9, .i32⟩
  | 114 => ⟨S16x4x224x224x9, .i32⟩
  | 115 => ⟨S16x4x224x224x9, .i32⟩
  | 116 => ⟨S16x4x224x224x9, .i32⟩
  | 117 => ⟨S16x4x224x224x9, .i32⟩
  | 118 => ⟨S_, .i32⟩
  | 119 => ⟨S16x4x224x224x9, .i32⟩
  | 120 => ⟨S16x4x224x224x9, .i32⟩
  | 121 => ⟨S_, .i32⟩
  | 122 => ⟨S16x4x224x224x9, .i32⟩
  | 123 => ⟨S16x4x224x224x9, .i32⟩
  | 124 => ⟨S16x4x224x224x9, .i32⟩
  | 125 => ⟨S16x4x224x224x9, .i32⟩
  | 126 => ⟨S16x4x224x224x9, .i32⟩
  | 127 => ⟨S16x4x224x224x9, .i32⟩
  | _ => ⟨S4x224x224x8, .f32⟩

abbrev hbmTy0_2 (i : Nat) : BufTy := match i % 128 with
  | 0 => ⟨S16x4x224x224x9, .i32⟩
  | 1 => ⟨S16x4x224x224x9, .i32⟩
  | 2 => ⟨S_, .i32⟩
  | 3 => ⟨S16x4x224x224x9, .i32⟩
  | 4 => ⟨S16x4x224x224x9, .i32⟩
  | 5 => ⟨S16x4x224x224x9, .i32⟩
  | 6 => ⟨S_, .i32⟩
  | 7 => ⟨S16x4x224x224x9, .i32⟩
  | 8 => ⟨S16x4x224x224x9, .i32⟩
  | 9 => ⟨S_, .i32⟩
  | 10 => ⟨S16x4x224x224x9, .i32⟩
  | 11 => ⟨S16x4x224x224x9, .i32⟩
  | 12 => ⟨S16x4x224x224x9, .i32⟩
  | 13 => ⟨S16x4x224x224x9, .i32⟩
  | 14 => ⟨S16x4x224x224x9, .i32⟩
  | 15 => ⟨S_, .i32⟩
  | 16 => ⟨S16x4x224x224x9, .i32⟩
  | 17 => ⟨S16x4x224x224x9, .i32⟩
  | 18 => ⟨S_, .i32⟩
  | 19 => ⟨S16x4x224x224x9, .i32⟩
  | 20 => ⟨S16x4x224x224x9, .i32⟩
  | 21 => ⟨S16x4x224x224x9, .i32⟩
  | 22 => ⟨S16x4x224x224x9, .i32⟩
  | 23 => ⟨S16x4x224x224x9, .i32⟩
  | 24 => ⟨S_, .i32⟩
  | 25 => ⟨S16x4x224x224x9, .i32⟩
  | 26 => ⟨S16x4x224x224x9, .i32⟩
  | 27 => ⟨S_, .i32⟩
  | 28 => ⟨S16x4x224x224x9, .i32⟩
  | 29 => ⟨S16x4x224x224x9, .i32⟩
  | 30 => ⟨S16x4x224x224x9, .i32⟩
  | 31 => ⟨S16x4x224x224x9, .i32⟩
  | 32 => ⟨S16x4x224x224x9, .i32⟩
  | 33 => ⟨S_, .i32⟩
  | 34 => ⟨S16x4x224x224x9, .i32⟩
  | 35 => ⟨S16x4x224x224x9, .i32⟩
  | 36 => ⟨S_, .i32⟩
  | 37 => ⟨S16x4x224x224x9, .i32⟩
  | 38 => ⟨S16x4x224x224x9, .i32⟩
  | 39 => ⟨S16x4x224x224x9, .i32⟩
  | 40 => ⟨S16x4x224x224x9, .i32⟩
  | 41 => ⟨S16x4x224x224x9, .i32⟩
  | 42 => ⟨S16x4x224x224x9, .i32⟩
  | 43 => ⟨S16x4x224x224x9, .i32⟩
  | 44 => ⟨S16x4x224x224x9, .i32⟩
  | 45 => ⟨S_, .i32⟩
  | 46 => ⟨S16x4x224x224x9, .i32⟩
  | 47 => ⟨S16x4x224x224x9, .i32⟩
  | 48 => ⟨S16x4x224x224x9, .i32⟩
  | 49 => ⟨S_, .i32⟩
  | 50 => ⟨S16x4x224x224x9, .i32⟩
  | 51 => ⟨S16x4x224x224x9, .i32⟩
  | 52 => ⟨S_, .i32⟩
  | 53 => ⟨S16x4x224x224x9, .i32⟩
  | 54 => ⟨S16x4x224x224x9, .i32⟩
  | 55 => ⟨S16x4x224x224x9, .f32⟩
  | 56 => ⟨S_, .f32⟩
  | 57 => ⟨S16x4x224x224x9, .f32⟩
  | 58 => ⟨S16x4x224x224x9, .f32⟩
  | 59 => ⟨S1x1x1x1x1, .f32⟩
  | 60 => ⟨S16x4x224x224x9, .f32⟩
  | 61 => ⟨S16x4x224x224x9, .f32⟩
  | 62 => ⟨S16x4x224x224x9, .f32⟩
  | 63 => ⟨S16x4x224x224x9, .f32⟩
  | 64 => ⟨S16x4x224x224x9, .f32⟩
  | 65 => ⟨S16x4x224x224x9, .f32⟩
  | 66 => ⟨S16x4x224x224x9, .f32⟩
  | 67 => ⟨S16x4x224x224x9, .f32⟩
  | 68 => ⟨S16x4x224x224x9, .f32⟩
  | 69 => ⟨S16x4x224x224x9, .f32⟩
  | 70 => ⟨S_, .f32⟩
  | 71 => ⟨S16x4x224x224x9, .f32⟩
  | 72 => ⟨S16x4x224x224x9, .f32⟩
  | 73 => ⟨S_, .f32⟩
  | 74 => ⟨S16x4x224x224x9, .f32⟩
  | 75 => ⟨S16x4x224x224x9, .f32⟩
  | 76 => ⟨S_, .f32⟩
  | 77 => ⟨S16x4x224x224x9, .f32⟩
  | 78 => ⟨S16x4x224x224x9, .f32⟩
  | 79 => ⟨S16x4x224x224x9, .f32⟩
  | 80 => ⟨S_, .f32⟩
  | 81 => ⟨S16x4x224x224x9, .f32⟩
  | 82 => ⟨S16x4x224x224x9, .f32⟩
  | 83 => ⟨S16x4x224x224x9, .f32⟩
  | 84 => ⟨S_, .f32⟩
  | 85 => ⟨S16x4x224x224x9, .f32⟩
  | 86 => ⟨S16x4x224x224x9, .f32⟩
  | 87 => ⟨S16x4x224x224x9, .f32⟩
  | 88 => ⟨S_, .f32⟩
  | 89 => ⟨S16x4x224x224x9, .f32⟩
  | 90 => ⟨S16x4x224x224x9, .f32⟩
  | 91 => ⟨S16x4x224x224x9, .f32⟩
  | 92 => ⟨S_, .f32⟩
  | 93 => ⟨S16x4x224x224x9, .f32⟩
  | 94 => ⟨S16x4x224x224x9, .f32⟩
  | 95 => ⟨S16x4x224x224x9, .f32⟩
  | 96 => ⟨S_, .f32⟩
  | 97 => ⟨S16x4x224x224x9, .f32⟩
  | 98 => ⟨S16x4x224x224x9, .f32⟩
  | 99 => ⟨S16x4x224x224x9, .f32⟩
  | 100 => ⟨S_, .f32⟩
  | 101 => ⟨S16x4x224x224x9, .f32⟩
  | 102 => ⟨S16x4x224x224x9, .f32⟩
  | 103 => ⟨S16x4x224x224x9, .f32⟩
  | 104 => ⟨S_, .f32⟩
  | 105 => ⟨S16x4x224x224x9, .f32⟩
  | 106 => ⟨S16x4x224x224x9, .f32⟩
  | 107 => ⟨S16x4x224x224x9, .f32⟩
  | 108 => ⟨S16x4x224x224x9, .f32⟩
  | 109 => ⟨S_, .f32⟩
  | 110 => ⟨S16x4x224x224x9, .f32⟩
  | 111 => ⟨S16x4x224x224x9, .f32⟩
  | 112 => ⟨S_, .f32⟩
  | 113 => ⟨S16x4x224x224x9, .f32⟩
  | 114 => ⟨S16x4x224x224x9, .f32⟩
  | 115 => ⟨S_, .f32⟩
  | 116 => ⟨S16x4x224x224x9, .f32⟩
  | 117 => ⟨S16x4x224x224x9, .f32⟩
  | 118 => ⟨S16x4x224x224x9, .f32⟩
  | 119 => ⟨S_, .f32⟩
  | 120 => ⟨S16x4x224x224x9, .f32⟩
  | 121 => ⟨S16x4x224x224x9, .f32⟩
  | 122 => ⟨S16x4x224x224x9, .f32⟩
  | 123 => ⟨S_, .f32⟩
  | 124 => ⟨S16x4x224x224x9, .f32⟩
  | 125 => ⟨S16x4x224x224x9, .f32⟩
  | 126 => ⟨S16x4x224x224x9, .f32⟩
  | 127 => ⟨S_, .f32⟩
  | _ => ⟨S4x224x224x8, .f32⟩

abbrev hbmTy0_3 (i : Nat) : BufTy := match i % 128 with
  | 0 => ⟨S16x4x224x224x9, .f32⟩
  | 1 => ⟨S16x4x224x224x9, .f32⟩
  | 2 => ⟨S16x4x224x224x9, .f32⟩
  | 3 => ⟨S_, .f32⟩
  | 4 => ⟨S16x4x224x224x9, .f32⟩
  | 5 => ⟨S16x4x224x224x9, .f32⟩
  | 6 => ⟨S16x4x224x224x9, .f32⟩
  | 7 => ⟨S_, .f32⟩
  | 8 => ⟨S16x4x224x224x9, .f32⟩
  | 9 => ⟨S16x4x224x224x9, .f32⟩
  | 10 => ⟨S16x4x224x224x9, .f32⟩
  | 11 => ⟨S_, .f32⟩
  | 12 => ⟨S16x4x224x224x9, .f32⟩
  | 13 => ⟨S16x4x224x224x9, .f32⟩
  | 14 => ⟨S16x4x224x224x9, .f32⟩
  | 15 => ⟨S_, .f32⟩
  | 16 => ⟨S16x4x224x224x9, .f32⟩
  | 17 => ⟨S16x4x224x224x9, .f32⟩
  | 18 => ⟨S16x4x224x224x9, .f32⟩
  | 19 => ⟨S16x4x224x224x9, .f32⟩
  | 20 => ⟨S_, .f32⟩
  | 21 => ⟨S16x4x224x224x9, .f32⟩
  | 22 => ⟨S16x4x224x224x9, .i1⟩
  | 23 => ⟨S_, .f32⟩
  | 24 => ⟨S16x4x224x224x9, .f32⟩
  | 25 => ⟨S16x4x224x224x9, .f32⟩
  | 26 => ⟨S_, .f32⟩
  | 27 => ⟨S16x4x224x224x9, .f32⟩
  | 28 => ⟨S16x4x224x224x9, .i1⟩
  | 29 => ⟨S16x4x224x224x9, .f32⟩
  | 30 => ⟨S16x4x224x224x9, .f32⟩
  | 31 => ⟨S_, .f32⟩
  | 32 => ⟨S16x4x224x224x9, .f32⟩
  | 33 => ⟨S16x4x224x224x9, .f32⟩
  | 34 => ⟨S_, .f32⟩
  | 35 => ⟨S16x4x224x224x9, .f32⟩
  | 36 => ⟨S16x4x224x224x9, .f32⟩
  | 37 => ⟨S1x4x224x224x9, .f32⟩
  | 38 => ⟨S16x4x224x224x9, .f32⟩
  | 39 => ⟨S16x4x224x224x9, .f32⟩
  | 40 => ⟨S16x4x224x224x9, .i32⟩
  | 41 => ⟨S_, .f32⟩
  | 42 => ⟨S_, .i32⟩
  | 43 => ⟨S16x4x224x224, .f32⟩
  | 44 => ⟨S16x4x224x224, .i32⟩
  | 45 => ⟨S16x4x224x224x1, .i32⟩
  | 46 => ⟨S1x1x1x1x9, .i32⟩
  | 47 => ⟨S16x4x224x224x9, .i32⟩
  | 48 => ⟨S16x4x224x224x9, .i32⟩
  | 49 => ⟨S16x4x224x224x9, .i1⟩
  | 50 => ⟨S16x4x224x224x9, .f32⟩
  | 51 => ⟨S_, .f32⟩
  | 52 => ⟨S4x224x224x9, .f32⟩
  | 53 => ⟨S_, .f32⟩
  | 54 => ⟨S4x224x224x9, .f32⟩
  | 55 => ⟨S4x224x224x9, .f32⟩
  | _ => ⟨S4x224x224x8, .f32⟩

abbrev hbmTy (i : Nat) : BufTy := match i / 128 with
  | 0 => hbmTy0_0 i
  | 1 => hbmTy0_1 i
  | 2 => hbmTy0_2 i
  | 3 => hbmTy0_3 i
  | _ => ⟨S4x224x224x8, .f32⟩

abbrev bufTy : (tb : Table) → Fin (tcTables nBuf tb) → BufTy
  | .hbm, ⟨i, _⟩ => hbmTy i
  | _, _ => ⟨S4x224x224x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c : Ref sig .tc := ⟨.hbm, 58, rfl⟩
abbrev main_call1_v12 : Ref sig .tc := ⟨.hbm, 59, rfl⟩
abbrev main_call1_v13 : Ref sig .tc := ⟨.hbm, 60, rfl⟩
abbrev main_call1_c_0 : Ref sig .tc := ⟨.hbm, 61, rfl⟩
abbrev main_call1_v14 : Ref sig .tc := ⟨.hbm, 62, rfl⟩
abbrev main_call1_v15 : Ref sig .tc := ⟨.hbm, 63, rfl⟩
abbrev main_call1_c_1 : Ref sig .tc := ⟨.hbm, 64, rfl⟩
abbrev main_call1_v16 : Ref sig .tc := ⟨.hbm, 65, rfl⟩
abbrev main_call1_v17 : Ref sig .tc := ⟨.hbm, 66, rfl⟩
abbrev main_call1_c_2 : Ref sig .tc := ⟨.hbm, 67, rfl⟩
abbrev main_call1_v18 : Ref sig .tc := ⟨.hbm, 68, rfl⟩
abbrev main_call1_v19 : Ref sig .tc := ⟨.hbm, 69, rfl⟩
abbrev main_call1_c_3 : Ref sig .tc := ⟨.hbm, 70, rfl⟩
abbrev main_call1_v20 : Ref sig .tc := ⟨.hbm, 71, rfl⟩
abbrev main_call1_v21 : Ref sig .tc := ⟨.hbm, 72, rfl⟩
abbrev main_call1_v22 : Ref sig .tc := ⟨.hbm, 73, rfl⟩
abbrev main_call1_v23 : Ref sig .tc := ⟨.hbm, 74, rfl⟩
abbrev main_call1_v24 : Ref sig .tc := ⟨.hbm, 75, rfl⟩
abbrev main_call1_v25 : Ref sig .tc := ⟨.hbm, 76, rfl⟩
abbrev main_call1_c_4 : Ref sig .tc := ⟨.hbm, 77, rfl⟩
abbrev main_call1_v26 : Ref sig .tc := ⟨.hbm, 78, rfl⟩
abbrev main_call1_v27 : Ref sig .tc := ⟨.hbm, 79, rfl⟩
abbrev main_call1_v28 : Ref sig .tc := ⟨.hbm, 80, rfl⟩
abbrev main_call1_v29 : Ref sig .tc := ⟨.hbm, 81, rfl⟩
abbrev main_call1_call0_v0 : Ref sig .tc := ⟨.hbm, 82, rfl⟩
abbrev main_call1_call0_c : Ref sig .tc := ⟨.hbm, 83, rfl⟩
abbrev main_call1_call0_v1 : Ref sig .tc := ⟨.hbm, 84, rfl⟩
abbrev main_call1_call0_v2 : Ref sig .tc := ⟨.hbm, 85, rfl⟩
abbrev main_call1_call0_v3 : Ref sig .tc := ⟨.hbm, 86, rfl⟩
abbrev main_call1_call0_v4 : Ref sig .tc := ⟨.hbm, 87, rfl⟩
abbrev main_call1_call0_v5 : Ref sig .tc := ⟨.hbm, 88, rfl⟩
abbrev main_call1_call0_v6 : Ref sig .tc := ⟨.hbm, 89, rfl⟩
abbrev main_call1_call0_c_0 : Ref sig .tc := ⟨.hbm, 90, rfl⟩
abbrev main_call1_call0_v7 : Ref sig .tc := ⟨.hbm, 91, rfl⟩
abbrev main_call1_call0_v8 : Ref sig .tc := ⟨.hbm, 92, rfl⟩
abbrev main_call1_call0_c_1 : Ref sig .tc := ⟨.hbm, 93, rfl⟩
abbrev main_call1_call0_v9 : Ref sig .tc := ⟨.hbm, 94, rfl⟩
abbrev main_call1_call0_v10 : Ref sig .tc := ⟨.hbm, 95, rfl⟩
abbrev main_call1_call0_v11 : Ref sig .tc := ⟨.hbm, 96, rfl⟩
abbrev main_call1_call0_v12 : Ref sig .tc := ⟨.hbm, 97, rfl⟩
abbrev main_call1_call0_v13 : Ref sig .tc := ⟨.hbm, 98, rfl⟩
abbrev main_call1_call0_c_2 : Ref sig .tc := ⟨.hbm, 99, rfl⟩
abbrev main_call1_call0_v14 : Ref sig .tc := ⟨.hbm, 100, rfl⟩
abbrev main_call1_call0_v15 : Ref sig .tc := ⟨.hbm, 101, rfl⟩
abbrev main_call1_call0_c_3 : Ref sig .tc := ⟨.hbm, 102, rfl⟩
abbrev main_call1_call0_v16 : Ref sig .tc := ⟨.hbm, 103, rfl⟩
abbrev main_call1_call0_v17 : Ref sig .tc := ⟨.hbm, 104, rfl⟩
abbrev main_call1_call0_v18 : Ref sig .tc := ⟨.hbm, 105, rfl⟩
abbrev main_call1_call0_v19 : Ref sig .tc := ⟨.hbm, 106, rfl⟩
abbrev main_call1_call0_v20 : Ref sig .tc := ⟨.hbm, 107, rfl⟩
abbrev main_call1_call0_c_4 : Ref sig .tc := ⟨.hbm, 108, rfl⟩
abbrev main_call1_call0_v21 : Ref sig .tc := ⟨.hbm, 109, rfl⟩
abbrev main_call1_call0_v22 : Ref sig .tc := ⟨.hbm, 110, rfl⟩
abbrev main_call1_call0_c_5 : Ref sig .tc := ⟨.hbm, 111, rfl⟩
abbrev main_call1_call0_v23 : Ref sig .tc := ⟨.hbm, 112, rfl⟩
abbrev main_call1_call0_v24 : Ref sig .tc := ⟨.hbm, 113, rfl⟩
abbrev main_call1_call0_v25 : Ref sig .tc := ⟨.hbm, 114, rfl⟩
abbrev main_call1_call0_v26 : Ref sig .tc := ⟨.hbm, 115, rfl⟩
abbrev main_call1_call0_v27 : Ref sig .tc := ⟨.hbm, 116, rfl⟩
abbrev main_call1_call0_c_6 : Ref sig .tc := ⟨.hbm, 117, rfl⟩
abbrev main_call1_call0_v28 : Ref sig .tc := ⟨.hbm, 118, rfl⟩
abbrev main_call1_call0_v29 : Ref sig .tc := ⟨.hbm, 119, rfl⟩
abbrev main_call1_call0_c_7 : Ref sig .tc := ⟨.hbm, 120, rfl⟩
abbrev main_call1_call0_v30 : Ref sig .tc := ⟨.hbm, 121, rfl⟩
abbrev main_call1_call0_v31 : Ref sig .tc := ⟨.hbm, 122, rfl⟩
abbrev main_call1_call0_v32 : Ref sig .tc := ⟨.hbm, 123, rfl⟩
abbrev main_call1_call0_v33 : Ref sig .tc := ⟨.hbm, 124, rfl⟩
abbrev main_call1_call0_v34 : Ref sig .tc := ⟨.hbm, 125, rfl⟩
abbrev main_call1_call0_v35 : Ref sig .tc := ⟨.hbm, 126, rfl⟩
abbrev main_call1_call0_v36 : Ref sig .tc := ⟨.hbm, 127, rfl⟩
abbrev main_call1_call0_v37 : Ref sig .tc := ⟨.hbm, 128, rfl⟩
abbrev main_call1_call0_c_8 : Ref sig .tc := ⟨.hbm, 129, rfl⟩
abbrev main_call1_call0_v38 : Ref sig .tc := ⟨.hbm, 130, rfl⟩
abbrev main_call1_call0_v39 : Ref sig .tc := ⟨.hbm, 131, rfl⟩
abbrev main_call1_call0_v40 : Ref sig .tc := ⟨.hbm, 132, rfl⟩
abbrev main_call1_call0_c_9 : Ref sig .tc := ⟨.hbm, 133, rfl⟩
abbrev main_call1_call0_v41 : Ref sig .tc := ⟨.hbm, 134, rfl⟩
abbrev main_call1_call0_v42 : Ref sig .tc := ⟨.hbm, 135, rfl⟩
abbrev main_call1_call0_c_10 : Ref sig .tc := ⟨.hbm, 136, rfl⟩
abbrev main_call1_call0_v43 : Ref sig .tc := ⟨.hbm, 137, rfl⟩
abbrev main_call1_call0_v44 : Ref sig .tc := ⟨.hbm, 138, rfl⟩
abbrev main_call1_call0_v45 : Ref sig .tc := ⟨.hbm, 139, rfl⟩
abbrev main_call1_call0_v46 : Ref sig .tc := ⟨.hbm, 140, rfl⟩
abbrev main_call1_call0_v47 : Ref sig .tc := ⟨.hbm, 141, rfl⟩
abbrev main_call1_call0_c_11 : Ref sig .tc := ⟨.hbm, 142, rfl⟩
abbrev main_call1_call0_v48 : Ref sig .tc := ⟨.hbm, 143, rfl⟩
abbrev main_call1_call0_v49 : Ref sig .tc := ⟨.hbm, 144, rfl⟩
abbrev main_call1_call0_c_12 : Ref sig .tc := ⟨.hbm, 145, rfl⟩
abbrev main_call1_call0_v50 : Ref sig .tc := ⟨.hbm, 146, rfl⟩
abbrev main_call1_call0_v51 : Ref sig .tc := ⟨.hbm, 147, rfl⟩
abbrev main_call1_call0_v52 : Ref sig .tc := ⟨.hbm, 148, rfl⟩
abbrev main_call1_call0_v53 : Ref sig .tc := ⟨.hbm, 149, rfl⟩
abbrev main_call1_call0_v54 : Ref sig .tc := ⟨.hbm, 150, rfl⟩
abbrev main_call1_call0_c_13 : Ref sig .tc := ⟨.hbm, 151, rfl⟩
abbrev main_call1_call0_v55 : Ref sig .tc := ⟨.hbm, 152, rfl⟩
abbrev main_call1_call0_v56 : Ref sig .tc := ⟨.hbm, 153, rfl⟩
abbrev main_call1_call0_c_14 : Ref sig .tc := ⟨.hbm, 154, rfl⟩
abbrev main_call1_call0_v57 : Ref sig .tc := ⟨.hbm, 155, rfl⟩
abbrev main_call1_call0_v58 : Ref sig .tc := ⟨.hbm, 156, rfl⟩
abbrev main_call1_call0_v59 : Ref sig .tc := ⟨.hbm, 157, rfl⟩
abbrev main_call1_call0_v60 : Ref sig .tc := ⟨.hbm, 158, rfl⟩
abbrev main_call1_call0_v61 : Ref sig .tc := ⟨.hbm, 159, rfl⟩
abbrev main_call1_call0_c_15 : Ref sig .tc := ⟨.hbm, 160, rfl⟩
abbrev main_call1_call0_v62 : Ref sig .tc := ⟨.hbm, 161, rfl⟩
abbrev main_call1_call0_v63 : Ref sig .tc := ⟨.hbm, 162, rfl⟩
abbrev main_call1_call0_c_16 : Ref sig .tc := ⟨.hbm, 163, rfl⟩
abbrev main_call1_call0_v64 : Ref sig .tc := ⟨.hbm, 164, rfl⟩
abbrev main_call1_call0_v65 : Ref sig .tc := ⟨.hbm, 165, rfl⟩
abbrev main_call1_call0_v66 : Ref sig .tc := ⟨.hbm, 166, rfl⟩
abbrev main_call1_call0_v67 : Ref sig .tc := ⟨.hbm, 167, rfl⟩
abbrev main_call1_call0_v68 : Ref sig .tc := ⟨.hbm, 168, rfl⟩
abbrev main_call1_call0_v69 : Ref sig .tc := ⟨.hbm, 169, rfl⟩
abbrev main_call1_call0_v70 : Ref sig .tc := ⟨.hbm, 170, rfl⟩
abbrev main_call1_call0_v71 : Ref sig .tc := ⟨.hbm, 171, rfl⟩
abbrev main_call1_call0_c_17 : Ref sig .tc := ⟨.hbm, 172, rfl⟩
abbrev main_call1_call0_v72 : Ref sig .tc := ⟨.hbm, 173, rfl⟩
abbrev main_call1_call0_v73 : Ref sig .tc := ⟨.hbm, 174, rfl⟩
abbrev main_call1_call0_v74 : Ref sig .tc := ⟨.hbm, 175, rfl⟩
abbrev main_call1_call0_c_18 : Ref sig .tc := ⟨.hbm, 176, rfl⟩
abbrev main_call1_call0_v75 : Ref sig .tc := ⟨.hbm, 177, rfl⟩
abbrev main_call1_call0_v76 : Ref sig .tc := ⟨.hbm, 178, rfl⟩
abbrev main_call1_call0_c_19 : Ref sig .tc := ⟨.hbm, 179, rfl⟩
abbrev main_call1_call0_v77 : Ref sig .tc := ⟨.hbm, 180, rfl⟩
abbrev main_call1_call0_v78 : Ref sig .tc := ⟨.hbm, 181, rfl⟩
abbrev main_call1_call0_v79 : Ref sig .tc := ⟨.hbm, 182, rfl⟩
abbrev main_call1_call0_v80 : Ref sig .tc := ⟨.hbm, 183, rfl⟩
abbrev main_call1_call0_v81 : Ref sig .tc := ⟨.hbm, 184, rfl⟩
abbrev main_call1_call0_c_20 : Ref sig .tc := ⟨.hbm, 185, rfl⟩
abbrev main_call1_call0_v82 : Ref sig .tc := ⟨.hbm, 186, rfl⟩
abbrev main_call1_call0_v83 : Ref sig .tc := ⟨.hbm, 187, rfl⟩
abbrev main_call1_call0_c_21 : Ref sig .tc := ⟨.hbm, 188, rfl⟩
abbrev main_call1_call0_v84 : Ref sig .tc := ⟨.hbm, 189, rfl⟩
abbrev main_call1_call0_v85 : Ref sig .tc := ⟨.hbm, 190, rfl⟩
abbrev main_call1_call0_v86 : Ref sig .tc := ⟨.hbm, 191, rfl⟩
abbrev main_call1_call0_v87 : Ref sig .tc := ⟨.hbm, 192, rfl⟩
abbrev main_call1_call0_v88 : Ref sig .tc := ⟨.hbm, 193, rfl⟩
abbrev main_call1_call0_c_22 : Ref sig .tc := ⟨.hbm, 194, rfl⟩
abbrev main_call1_call0_v89 : Ref sig .tc := ⟨.hbm, 195, rfl⟩
abbrev main_call1_call0_v90 : Ref sig .tc := ⟨.hbm, 196, rfl⟩
abbrev main_call1_call0_c_23 : Ref sig .tc := ⟨.hbm, 197, rfl⟩
abbrev main_call1_call0_v91 : Ref sig .tc := ⟨.hbm, 198, rfl⟩
abbrev main_call1_call0_v92 : Ref sig .tc := ⟨.hbm, 199, rfl⟩
abbrev main_call1_call0_v93 : Ref sig .tc := ⟨.hbm, 200, rfl⟩
abbrev main_call1_call0_v94 : Ref sig .tc := ⟨.hbm, 201, rfl⟩
abbrev main_call1_call0_v95 : Ref sig .tc := ⟨.hbm, 202, rfl⟩
abbrev main_call1_call0_c_24 : Ref sig .tc := ⟨.hbm, 203, rfl⟩
abbrev main_call1_call0_v96 : Ref sig .tc := ⟨.hbm, 204, rfl⟩
abbrev main_call1_call0_v97 : Ref sig .tc := ⟨.hbm, 205, rfl⟩
abbrev main_call1_call0_c_25 : Ref sig .tc := ⟨.hbm, 206, rfl⟩
abbrev main_call1_call0_v98 : Ref sig .tc := ⟨.hbm, 207, rfl⟩
abbrev main_call1_call0_v99 : Ref sig .tc := ⟨.hbm, 208, rfl⟩
abbrev main_call1_call0_v100 : Ref sig .tc := ⟨.hbm, 209, rfl⟩
abbrev main_call1_call0_v101 : Ref sig .tc := ⟨.hbm, 210, rfl⟩
abbrev main_call1_call0_v102 : Ref sig .tc := ⟨.hbm, 211, rfl⟩
abbrev main_call1_call0_v103 : Ref sig .tc := ⟨.hbm, 212, rfl⟩
abbrev main_call1_call0_v104 : Ref sig .tc := ⟨.hbm, 213, rfl⟩
abbrev main_call1_call0_v105 : Ref sig .tc := ⟨.hbm, 214, rfl⟩
abbrev main_call1_call0_c_26 : Ref sig .tc := ⟨.hbm, 215, rfl⟩
abbrev main_call1_call0_v106 : Ref sig .tc := ⟨.hbm, 216, rfl⟩
abbrev main_call1_call0_v107 : Ref sig .tc := ⟨.hbm, 217, rfl⟩
abbrev main_call1_call0_v108 : Ref sig .tc := ⟨.hbm, 218, rfl⟩
abbrev main_call1_call0_c_27 : Ref sig .tc := ⟨.hbm, 219, rfl⟩
abbrev main_call1_call0_v109 : Ref sig .tc := ⟨.hbm, 220, rfl⟩
abbrev main_call1_call0_v110 : Ref sig .tc := ⟨.hbm, 221, rfl⟩
abbrev main_call1_call0_c_28 : Ref sig .tc := ⟨.hbm, 222, rfl⟩
abbrev main_call1_call0_v111 : Ref sig .tc := ⟨.hbm, 223, rfl⟩
abbrev main_call1_call0_v112 : Ref sig .tc := ⟨.hbm, 224, rfl⟩
abbrev main_call1_call0_v113 : Ref sig .tc := ⟨.hbm, 225, rfl⟩
abbrev main_call1_call0_v114 : Ref sig .tc := ⟨.hbm, 226, rfl⟩
abbrev main_call1_call0_v115 : Ref sig .tc := ⟨.hbm, 227, rfl⟩
abbrev main_call1_call0_c_29 : Ref sig .tc := ⟨.hbm, 228, rfl⟩
abbrev main_call1_call0_v116 : Ref sig .tc := ⟨.hbm, 229, rfl⟩
abbrev main_call1_call0_v117 : Ref sig .tc := ⟨.hbm, 230, rfl⟩
abbrev main_call1_call0_c_30 : Ref sig .tc := ⟨.hbm, 231, rfl⟩
abbrev main_call1_call0_v118 : Ref sig .tc := ⟨.hbm, 232, rfl⟩
abbrev main_call1_call0_v119 : Ref sig .tc := ⟨.hbm, 233, rfl⟩
abbrev main_call1_call0_v120 : Ref sig .tc := ⟨.hbm, 234, rfl⟩
abbrev main_call1_call0_v121 : Ref sig .tc := ⟨.hbm, 235, rfl⟩
abbrev main_call1_call0_v122 : Ref sig .tc := ⟨.hbm, 236, rfl⟩
abbrev main_call1_call0_c_31 : Ref sig .tc := ⟨.hbm, 237, rfl⟩
abbrev main_call1_call0_v123 : Ref sig .tc := ⟨.hbm, 238, rfl⟩
abbrev main_call1_call0_v124 : Ref sig .tc := ⟨.hbm, 239, rfl⟩
abbrev main_call1_call0_c_32 : Ref sig .tc := ⟨.hbm, 240, rfl⟩
abbrev main_call1_call0_v125 : Ref sig .tc := ⟨.hbm, 241, rfl⟩
abbrev main_call1_call0_v126 : Ref sig .tc := ⟨.hbm, 242, rfl⟩
abbrev main_call1_call0_v127 : Ref sig .tc := ⟨.hbm, 243, rfl⟩
abbrev main_call1_call0_v128 : Ref sig .tc := ⟨.hbm, 244, rfl⟩
abbrev main_call1_call0_v129 : Ref sig .tc := ⟨.hbm, 245, rfl⟩
abbrev main_call1_call0_c_33 : Ref sig .tc := ⟨.hbm, 246, rfl⟩
abbrev main_call1_call0_v130 : Ref sig .tc := ⟨.hbm, 247, rfl⟩
abbrev main_call1_call0_v131 : Ref sig .tc := ⟨.hbm, 248, rfl⟩
abbrev main_call1_call0_c_34 : Ref sig .tc := ⟨.hbm, 249, rfl⟩
abbrev main_call1_call0_v132 : Ref sig .tc := ⟨.hbm, 250, rfl⟩
abbrev main_call1_call0_v133 : Ref sig .tc := ⟨.hbm, 251, rfl⟩
abbrev main_call1_call0_v134 : Ref sig .tc := ⟨.hbm, 252, rfl⟩
abbrev main_call1_call0_v135 : Ref sig .tc := ⟨.hbm, 253, rfl⟩
abbrev main_call1_call0_v136 : Ref sig .tc := ⟨.hbm, 254, rfl⟩
abbrev main_call1_call0_v137 : Ref sig .tc := ⟨.hbm, 255, rfl⟩
abbrev main_call1_call0_v138 : Ref sig .tc := ⟨.hbm, 256, rfl⟩
abbrev main_call1_call0_v139 : Ref sig .tc := ⟨.hbm, 257, rfl⟩
abbrev main_call1_call0_c_35 : Ref sig .tc := ⟨.hbm, 258, rfl⟩
abbrev main_call1_call0_v140 : Ref sig .tc := ⟨.hbm, 259, rfl⟩
abbrev main_call1_call0_v141 : Ref sig .tc := ⟨.hbm, 260, rfl⟩
abbrev main_call1_call0_v142 : Ref sig .tc := ⟨.hbm, 261, rfl⟩
abbrev main_call1_call0_c_36 : Ref sig .tc := ⟨.hbm, 262, rfl⟩
abbrev main_call1_call0_v143 : Ref sig .tc := ⟨.hbm, 263, rfl⟩
abbrev main_call1_call0_v144 : Ref sig .tc := ⟨.hbm, 264, rfl⟩
abbrev main_call1_call0_c_37 : Ref sig .tc := ⟨.hbm, 265, rfl⟩
abbrev main_call1_call0_v145 : Ref sig .tc := ⟨.hbm, 266, rfl⟩
abbrev main_call1_call0_v146 : Ref sig .tc := ⟨.hbm, 267, rfl⟩
abbrev main_call1_call0_v147 : Ref sig .tc := ⟨.hbm, 268, rfl⟩
abbrev main_call1_call0_v148 : Ref sig .tc := ⟨.hbm, 269, rfl⟩
abbrev main_call1_call0_v149 : Ref sig .tc := ⟨.hbm, 270, rfl⟩
abbrev main_call1_call0_c_38 : Ref sig .tc := ⟨.hbm, 271, rfl⟩
abbrev main_call1_call0_v150 : Ref sig .tc := ⟨.hbm, 272, rfl⟩
abbrev main_call1_call0_v151 : Ref sig .tc := ⟨.hbm, 273, rfl⟩
abbrev main_call1_call0_c_39 : Ref sig .tc := ⟨.hbm, 274, rfl⟩
abbrev main_call1_call0_v152 : Ref sig .tc := ⟨.hbm, 275, rfl⟩
abbrev main_call1_call0_v153 : Ref sig .tc := ⟨.hbm, 276, rfl⟩
abbrev main_call1_call0_v154 : Ref sig .tc := ⟨.hbm, 277, rfl⟩
abbrev main_call1_call0_v155 : Ref sig .tc := ⟨.hbm, 278, rfl⟩
abbrev main_call1_call0_v156 : Ref sig .tc := ⟨.hbm, 279, rfl⟩
abbrev main_call1_call0_c_40 : Ref sig .tc := ⟨.hbm, 280, rfl⟩
abbrev main_call1_call0_v157 : Ref sig .tc := ⟨.hbm, 281, rfl⟩
abbrev main_call1_call0_v158 : Ref sig .tc := ⟨.hbm, 282, rfl⟩
abbrev main_call1_call0_c_41 : Ref sig .tc := ⟨.hbm, 283, rfl⟩
abbrev main_call1_call0_v159 : Ref sig .tc := ⟨.hbm, 284, rfl⟩
abbrev main_call1_call0_v160 : Ref sig .tc := ⟨.hbm, 285, rfl⟩
abbrev main_call1_call0_v161 : Ref sig .tc := ⟨.hbm, 286, rfl⟩
abbrev main_call1_call0_v162 : Ref sig .tc := ⟨.hbm, 287, rfl⟩
abbrev main_call1_call0_v163 : Ref sig .tc := ⟨.hbm, 288, rfl⟩
abbrev main_call1_call0_c_42 : Ref sig .tc := ⟨.hbm, 289, rfl⟩
abbrev main_call1_call0_v164 : Ref sig .tc := ⟨.hbm, 290, rfl⟩
abbrev main_call1_call0_v165 : Ref sig .tc := ⟨.hbm, 291, rfl⟩
abbrev main_call1_call0_c_43 : Ref sig .tc := ⟨.hbm, 292, rfl⟩
abbrev main_call1_call0_v166 : Ref sig .tc := ⟨.hbm, 293, rfl⟩
abbrev main_call1_call0_v167 : Ref sig .tc := ⟨.hbm, 294, rfl⟩
abbrev main_call1_call0_v168 : Ref sig .tc := ⟨.hbm, 295, rfl⟩
abbrev main_call1_call0_v169 : Ref sig .tc := ⟨.hbm, 296, rfl⟩
abbrev main_call1_call0_v170 : Ref sig .tc := ⟨.hbm, 297, rfl⟩
abbrev main_call1_v30_0 : Ref sig .tc := ⟨.hbm, 298, rfl⟩
abbrev main_call1_call0_v172 : Ref sig .tc := ⟨.hbm, 299, rfl⟩
abbrev main_call1_call0_v173 : Ref sig .tc := ⟨.hbm, 300, rfl⟩
abbrev main_call1_call0_c_44 : Ref sig .tc := ⟨.hbm, 301, rfl⟩
abbrev main_call1_call0_v174 : Ref sig .tc := ⟨.hbm, 302, rfl⟩
abbrev main_call1_v30_1 : Ref sig .tc := ⟨.hbm, 303, rfl⟩
abbrev main_call1_v31 : Ref sig .tc := ⟨.hbm, 304, rfl⟩
abbrev main_call1_c_5 : Ref sig .tc := ⟨.hbm, 305, rfl⟩
abbrev main_call1_v32 : Ref sig .tc := ⟨.hbm, 306, rfl⟩
abbrev main_call1_v33 : Ref sig .tc := ⟨.hbm, 307, rfl⟩
abbrev main_call1_c_6 : Ref sig .tc := ⟨.hbm, 308, rfl⟩
abbrev main_call1_v34 : Ref sig .tc := ⟨.hbm, 309, rfl⟩
abbrev main_call1_v35 : Ref sig .tc := ⟨.hbm, 310, rfl⟩
abbrev main_call1_v36 : Ref sig .tc := ⟨.hbm, 311, rfl⟩
abbrev main_call1_cst : Ref sig .tc := ⟨.hbm, 312, rfl⟩
abbrev main_call1_v37 : Ref sig .tc := ⟨.hbm, 313, rfl⟩
abbrev main_call1_v38 : Ref sig .tc := ⟨.hbm, 314, rfl⟩
abbrev main_call1_v39 : Ref sig .tc := ⟨.hbm, 315, rfl⟩
abbrev main_call1_v40 : Ref sig .tc := ⟨.hbm, 316, rfl⟩
abbrev main_call1_v41 : Ref sig .tc := ⟨.hbm, 317, rfl⟩
abbrev main_call1_v42 : Ref sig .tc := ⟨.hbm, 318, rfl⟩
abbrev main_call1_v43 : Ref sig .tc := ⟨.hbm, 319, rfl⟩
abbrev main_call1_v44 : Ref sig .tc := ⟨.hbm, 320, rfl⟩
abbrev main_v29 : Ref sig .tc := ⟨.hbm, 321, rfl⟩
abbrev main_v30 : Ref sig .tc := ⟨.hbm, 322, rfl⟩
abbrev main_v31 : Ref sig .tc := ⟨.hbm, 323, rfl⟩
abbrev main_v32 : Ref sig .tc := ⟨.hbm, 324, rfl⟩
abbrev main_v33 : Ref sig .tc := ⟨.hbm, 325, rfl⟩
abbrev main_cst_8 : Ref sig .tc := ⟨.hbm, 326, rfl⟩
abbrev main_v34 : Ref sig .tc := ⟨.hbm, 327, rfl⟩
abbrev main_v35 : Ref sig .tc := ⟨.hbm, 328, rfl⟩
abbrev main_cst_9 : Ref sig .tc := ⟨.hbm, 329, rfl⟩
abbrev main_v36 : Ref sig .tc := ⟨.hbm, 330, rfl⟩
abbrev main_v37 : Ref sig .tc := ⟨.hbm, 331, rfl⟩
abbrev main_cst_10 : Ref sig .tc := ⟨.hbm, 332, rfl⟩
abbrev main_v38 : Ref sig .tc := ⟨.hbm, 333, rfl⟩
abbrev main_v39 : Ref sig .tc := ⟨.hbm, 334, rfl⟩
abbrev main_v40 : Ref sig .tc := ⟨.hbm, 335, rfl⟩
abbrev main_cst_11 : Ref sig .tc := ⟨.hbm, 336, rfl⟩
abbrev main_v41 : Ref sig .tc := ⟨.hbm, 337, rfl⟩
abbrev main_v42 : Ref sig .tc := ⟨.hbm, 338, rfl⟩
abbrev main_v43 : Ref sig .tc := ⟨.hbm, 339, rfl⟩
abbrev main_cst_12 : Ref sig .tc := ⟨.hbm, 340, rfl⟩
abbrev main_v44 : Ref sig .tc := ⟨.hbm, 341, rfl⟩
abbrev main_v45 : Ref sig .tc := ⟨.hbm, 342, rfl⟩
abbrev main_v46 : Ref sig .tc := ⟨.hbm, 343, rfl⟩
abbrev main_cst_13 : Ref sig .tc := ⟨.hbm, 344, rfl⟩
abbrev main_v47 : Ref sig .tc := ⟨.hbm, 345, rfl⟩
abbrev main_v48 : Ref sig .tc := ⟨.hbm, 346, rfl⟩
abbrev main_v49 : Ref sig .tc := ⟨.hbm, 347, rfl⟩
abbrev main_cst_14 : Ref sig .tc := ⟨.hbm, 348, rfl⟩
abbrev main_v50 : Ref sig .tc := ⟨.hbm, 349, rfl⟩
abbrev main_v51 : Ref sig .tc := ⟨.hbm, 350, rfl⟩
abbrev main_v52 : Ref sig .tc := ⟨.hbm, 351, rfl⟩
abbrev main_cst_15 : Ref sig .tc := ⟨.hbm, 352, rfl⟩
abbrev main_v53 : Ref sig .tc := ⟨.hbm, 353, rfl⟩
abbrev main_v54 : Ref sig .tc := ⟨.hbm, 354, rfl⟩
abbrev main_v55 : Ref sig .tc := ⟨.hbm, 355, rfl⟩
abbrev main_cst_16 : Ref sig .tc := ⟨.hbm, 356, rfl⟩
abbrev main_v56 : Ref sig .tc := ⟨.hbm, 357, rfl⟩
abbrev main_v57 : Ref sig .tc := ⟨.hbm, 358, rfl⟩
abbrev main_v58 : Ref sig .tc := ⟨.hbm, 359, rfl⟩
abbrev main_cst_17 : Ref sig .tc := ⟨.hbm, 360, rfl⟩
abbrev main_v59 : Ref sig .tc := ⟨.hbm, 361, rfl⟩
abbrev main_v60 : Ref sig .tc := ⟨.hbm, 362, rfl⟩
abbrev main_v61 : Ref sig .tc := ⟨.hbm, 363, rfl⟩
abbrev main_v62 : Ref sig .tc := ⟨.hbm, 364, rfl⟩
abbrev main_cst_18 : Ref sig .tc := ⟨.hbm, 365, rfl⟩
abbrev main_v63 : Ref sig .tc := ⟨.hbm, 366, rfl⟩
abbrev main_v64 : Ref sig .tc := ⟨.hbm, 367, rfl⟩
abbrev main_cst_19 : Ref sig .tc := ⟨.hbm, 368, rfl⟩
abbrev main_v65 : Ref sig .tc := ⟨.hbm, 369, rfl⟩
abbrev main_v66 : Ref sig .tc := ⟨.hbm, 370, rfl⟩
abbrev main_cst_20 : Ref sig .tc := ⟨.hbm, 371, rfl⟩
abbrev main_v67 : Ref sig .tc := ⟨.hbm, 372, rfl⟩
abbrev main_v68 : Ref sig .tc := ⟨.hbm, 373, rfl⟩
abbrev main_v69 : Ref sig .tc := ⟨.hbm, 374, rfl⟩
abbrev main_cst_21 : Ref sig .tc := ⟨.hbm, 375, rfl⟩
abbrev main_v70 : Ref sig .tc := ⟨.hbm, 376, rfl⟩
abbrev main_v71 : Ref sig .tc := ⟨.hbm, 377, rfl⟩
abbrev main_v72 : Ref sig .tc := ⟨.hbm, 378, rfl⟩
abbrev main_cst_22 : Ref sig .tc := ⟨.hbm, 379, rfl⟩
abbrev main_v73 : Ref sig .tc := ⟨.hbm, 380, rfl⟩
abbrev main_v74 : Ref sig .tc := ⟨.hbm, 381, rfl⟩
abbrev main_v75 : Ref sig .tc := ⟨.hbm, 382, rfl⟩
abbrev main_cst_23 : Ref sig .tc := ⟨.hbm, 383, rfl⟩
abbrev main_v76 : Ref sig .tc := ⟨.hbm, 384, rfl⟩
abbrev main_v77 : Ref sig .tc := ⟨.hbm, 385, rfl⟩
abbrev main_v78 : Ref sig .tc := ⟨.hbm, 386, rfl⟩
abbrev main_cst_24 : Ref sig .tc := ⟨.hbm, 387, rfl⟩
abbrev main_v79 : Ref sig .tc := ⟨.hbm, 388, rfl⟩
abbrev main_v80 : Ref sig .tc := ⟨.hbm, 389, rfl⟩
abbrev main_v81 : Ref sig .tc := ⟨.hbm, 390, rfl⟩
abbrev main_cst_25 : Ref sig .tc := ⟨.hbm, 391, rfl⟩
abbrev main_v82 : Ref sig .tc := ⟨.hbm, 392, rfl⟩
abbrev main_v83 : Ref sig .tc := ⟨.hbm, 393, rfl⟩
abbrev main_v84 : Ref sig .tc := ⟨.hbm, 394, rfl⟩
abbrev main_cst_26 : Ref sig .tc := ⟨.hbm, 395, rfl⟩
abbrev main_v85 : Ref sig .tc := ⟨.hbm, 396, rfl⟩
abbrev main_v86 : Ref sig .tc := ⟨.hbm, 397, rfl⟩
abbrev main_v87 : Ref sig .tc := ⟨.hbm, 398, rfl⟩
abbrev main_cst_27 : Ref sig .tc := ⟨.hbm, 399, rfl⟩
abbrev main_v88 : Ref sig .tc := ⟨.hbm, 400, rfl⟩
abbrev main_v89 : Ref sig .tc := ⟨.hbm, 401, rfl⟩
abbrev main_v90 : Ref sig .tc := ⟨.hbm, 402, rfl⟩
abbrev main_v91 : Ref sig .tc := ⟨.hbm, 403, rfl⟩
abbrev main_cst_28 : Ref sig .tc := ⟨.hbm, 404, rfl⟩
abbrev main_v92 : Ref sig .tc := ⟨.hbm, 405, rfl⟩
abbrev main_v93 : Ref sig .tc := ⟨.hbm, 406, rfl⟩
abbrev main_cst_29 : Ref sig .tc := ⟨.hbm, 407, rfl⟩
abbrev main_v94 : Ref sig .tc := ⟨.hbm, 408, rfl⟩
abbrev main_v95 : Ref sig .tc := ⟨.hbm, 409, rfl⟩
abbrev main_cst_30 : Ref sig .tc := ⟨.hbm, 410, rfl⟩
abbrev main_v96 : Ref sig .tc := ⟨.hbm, 411, rfl⟩
abbrev main_v97 : Ref sig .tc := ⟨.hbm, 412, rfl⟩
abbrev main_v98 : Ref sig .tc := ⟨.hbm, 413, rfl⟩
abbrev main_v99 : Ref sig .tc := ⟨.hbm, 414, rfl⟩
abbrev main_cst_31 : Ref sig .tc := ⟨.hbm, 415, rfl⟩
abbrev main_v100 : Ref sig .tc := ⟨.hbm, 416, rfl⟩
abbrev main_v101 : Ref sig .tc := ⟨.hbm, 417, rfl⟩
abbrev main_cst_32 : Ref sig .tc := ⟨.hbm, 418, rfl⟩
abbrev main_v102 : Ref sig .tc := ⟨.hbm, 419, rfl⟩
abbrev main_v103 : Ref sig .tc := ⟨.hbm, 420, rfl⟩
abbrev main_v104 : Ref sig .tc := ⟨.hbm, 421, rfl⟩
abbrev main_v105 : Ref sig .tc := ⟨.hbm, 422, rfl⟩
abbrev main_v106 : Ref sig .tc := ⟨.hbm, 423, rfl⟩
abbrev main_call4_v0 : Ref sig .tc := ⟨.hbm, 424, rfl⟩
abbrev main_call4_cst : Ref sig .tc := ⟨.hbm, 425, rfl⟩
abbrev main_call4_c : Ref sig .tc := ⟨.hbm, 426, rfl⟩
abbrev main_call4_v1_0 : Ref sig .tc := ⟨.hbm, 427, rfl⟩
abbrev main_v107 : Ref sig .tc := ⟨.hbm, 428, rfl⟩
abbrev main_call5_v0 : Ref sig .tc := ⟨.hbm, 429, rfl⟩
abbrev main_call5_v1 : Ref sig .tc := ⟨.hbm, 430, rfl⟩
abbrev main_call5_v2 : Ref sig .tc := ⟨.hbm, 431, rfl⟩
abbrev main_call5_v3 : Ref sig .tc := ⟨.hbm, 432, rfl⟩
abbrev main_call5_v4 : Ref sig .tc := ⟨.hbm, 433, rfl⟩
abbrev main_v108 : Ref sig .tc := ⟨.hbm, 434, rfl⟩
abbrev main_cst_33 : Ref sig .tc := ⟨.hbm, 435, rfl⟩
abbrev main_v109 : Ref sig .tc := ⟨.hbm, 436, rfl⟩
abbrev main_cst_34 : Ref sig .tc := ⟨.hbm, 437, rfl⟩
abbrev main_v110 : Ref sig .tc := ⟨.hbm, 438, rfl⟩
abbrev main_v111 : Ref sig .tc := ⟨.hbm, 439, rfl⟩

abbrev nD : Nat := 1
abbrev τ : Topo := Topo.v7x

variable {F : FTy → Type} [FloatOps F]
-- ==== Proof.Sampler.lean ====
/- The mathematics of one perturbed choice, on single numbers: the random word of a counter, the normal number drawn
   from it, and the category with the best perturbed score. Nothing here mentions a program. -/
module

public import proofs.«01_k».proof.Proof.Gen.KernelIdeal.Frame

@[expose] public section

noncomputable section

namespace Cert.Sampler

open Idealize.ShloMosaic

variable {F : FTy → Type} [FloatOps F] [Named F]

/-- A 32-bit word. -/
abbrev Word := BitVec 32

/-- A literal by its bits. -/
abbrev lit (b : Word) : F .f32 := FloatOps.ofBits .f32 b

/-- One round of the threefry mixer: add, rotate by `r` (`q = 32 - r`), exclusive-or. -/
def mix (r q : Word) (p : Word × Word) : Word × Word :=
  (IntOp.addi p.1 p.2, IntOp.xori (IntOp.addi p.1 p.2) (IntOp.ori (IntOp.shli .vector p.2 r) (IntOp.shrui .vector p.2 q)))

/-- A key injection: the words `k` and `l` of the key and the number `n` of the group of rounds. -/
def inject (k l n : Word) (p : Word × Word) : Word × Word :=
  (IntOp.addi p.1 k, IntOp.addi (IntOp.addi p.2 l) n)

/-- The threefry state of a counter, with the key (0, 1), before its two words are combined. -/
def state (x : Word) : Word × Word :=
  inject 466688987 0 5 (mix 6 26 (mix 26 6 (mix 15 17 (mix 13 19
  (inject 1 466688987 4 (mix 24 8 (mix 16 16 (mix 29 3 (mix 17 15
  (inject 0 1 3 (mix 6 26 (mix 26 6 (mix 15 17 (mix 13 19
  (inject 466688987 0 2 (mix 24 8 (mix 16 16 (mix 29 3 (mix 17 15
  (inject 1 466688987 1 (mix 6 26 (mix 26 6 (mix 15 17 (mix 13 19
  (0, IntOp.addi x 1)))))))))))))))))))))))))

/-- The random word of a counter. -/
def bits (x : Word) : Word := IntOp.xori (state x).1 (state x).2

/-- The bits of the float in [1, 2) that a random word stands for. -/
def mantissa (b : Word) : Word := IntOp.ori (IntOp.shrui .vector b 9) 1065353216

/-- The kernel's uniform number of a counter. -/
def uniform (x : Word) : F .f32 :=
  FloatOps.addf (FloatOps.mulf (FloatOps.subf (lit (mantissa (bits x))) (lit 0x3F800000#32))
    (Named.named KernelIdeal.κ "span" 0x40000000#32 : F .f32)) (lit 0xBF7FFFFF#32)

/-- `- log (1 - u²)`, as the kernel spells it. -/
def weight (u : F .f32) : F .f32 :=
  FloatOps.subf (lit 0) (FloatOps.log1p (FloatOps.mulf u (FloatOps.subf (lit 0) u)))

/-- Whether the weight lies in the middle of the interval. -/
def middle (w : F .f32) : BitVec 1 := FloatOps.cmpf .olt w (lit 0x40A00000#32)

/-- The polynomials' argument. -/
def argument (w : F .f32) (m : BitVec 1) : F .f32 :=
  Scalar.select m (FloatOps.subf w (lit 0x40200000#32)) (FloatOps.subf (FloatOps.sqrt w) (lit 0x40400000#32))

/-- One step of the polynomial that `m` chooses: the running value times `t` plus the chosen coefficient. -/
def step (m : BitVec 1) (t : F .f32) (a b : Word) (p : F .f32) : F .f32 :=
  FloatOps.addf (Scalar.select m (lit a) (lit b)) (FloatOps.mulf p t)

/-- The polynomial that `m` chooses, at `t`. -/
def horner (m : BitVec 1) (t : F .f32) : F .f32 :=
  step m t 0x3FC02E2F#32 0x40354F7E#32 (step m t 0x3E7C8F63#32 0x3F8036DB#32
    (step m t 0xBB88E4EF#32 0x3C1AA57E#32 (step m t 0xBAA45408#32 0xBBF9C5D7#32
    (step m t 0x396532DB#32 0x3BBC127B#32 (step m t 0xB6935AC1#32 0xBB70BDE7#32
    (step m t 0xB66C7357#32 0x3AB0DC72#32 (step m t 0x34B84B36#32 0x38D3B56B#32
    (Scalar.select m (lit 0x32F16588#32) (lit 0xB951F09B#32)))))))))

/-- The inverse error function, as the kernel spells it. -/
def erfInv (u : F .f32) : F .f32 :=
  FloatOps.mulf (horner (middle (weight u)) (argument (weight u) (middle (weight u)))) u

/-- The normal number of a counter. -/
def normal (x : Word) : F .f32 := FloatOps.mulf (lit 0x3FB504F3#32) (erfInv (uniform x))

/-- The perturbed score of log-weight `z` with the noise of counter `x`. -/
def score (z : F .f32) (x : Word) : F .f32 := FloatOps.addf z (FloatOps.mulf (lit 0x3D23D70A#32) (normal x))

/-- The running best score and its category, after category `k` of score `v`: the newcomer must be greater. -/
def better (k : Word) (v : F .f32) (p : F .f32 × Word) : F .f32 × Word :=
  (Scalar.select (FloatOps.cmpf .ogt v p.1) v p.1, Scalar.select (FloatOps.cmpf .ogt v p.1) k p.2)

/-- The category of the best score, the first of equals. -/
def best (v : Fin 9 → F .f32) : Word :=
  (better 8 (v 8) (better 7 (v 7) (better 6 (v 6) (better 5 (v 5) (better 4 (v 4) (better 3 (v 3) (better 2 (v 2)
    (better 1 (v 1) (v 0, 0))))))))).2

/-- The chosen category, from the log-weights of the categories and the first category's counter. -/
def choice (z : Fin 9 → F .f32) (x : Word) : Word := best fun k => score (z k) (IntOp.addi x (BitVec.ofNat 32 k.val))

/-! The same definitions as rules about whole arrays of a shape `s`: what two printed arrays must be for the arrays
computed from them to hold the values defined above. -/

variable {s : Shape}

/-- A round, on arrays. -/
theorem mix_of {r q : Word} {a b : IVec s 32} {p : s.Idx → Word × Word} (h : ∀ j, a j = (p j).1 ∧ b j = (p j).2) :
    ∀ j, addi a b j = (mix r q (p j)).1 ∧
      xori (addi a b) (ori (shli b (broadcast s r)) (shrui b (broadcast s q))) j = (mix r q (p j)).2 := fun j => by
  rw [mix, ← (h j).1, ← (h j).2]; exact ⟨rfl, rfl⟩

/-- A key injection, on arrays. -/
theorem inject_of {k l n : Word} {a b : IVec s 32} {p : s.Idx → Word × Word} (h : ∀ j, a j = (p j).1 ∧ b j = (p j).2) :
    ∀ j, addi a (broadcast s k) j = (inject k l n (p j)).1 ∧
      addi (addi b (broadcast s l)) (broadcast s n) j = (inject k l n (p j)).2 := fun j => by
  rw [inject, ← (h j).1, ← (h j).2]; exact ⟨rfl, rfl⟩

/-- The uniform numbers, from the threefry states. -/
theorem uniform_of {a b : IVec s 32} {x : s.Idx → Word} (h : ∀ j, a j = (state (x j)).1 ∧ b j = (state (x j)).2) :
    ∀ j, addf (mulf (subf (bitcastToFloat .f32 (ori (shrui (xori a b) (broadcast s 9)) (broadcast s 1065353216)))
      (broadcast s (lit 0x3F800000#32))) (broadcast s (Named.named KernelIdeal.κ "span" 0x40000000#32 : F .f32)))
      (broadcast s (lit 0xBF7FFFFF#32)) j = uniform (F := F) (x j) := fun j => by
  rw [uniform, bits, ← (h j).1, ← (h j).2]; rfl

/-- The weight, on arrays. -/
theorem weight_of {u : FVec F s .f32} {v : s.Idx → F .f32} (h : ∀ j, u j = v j) :
    ∀ j, subf (broadcast s (lit 0)) (log1p (mulf u (subf (broadcast s (lit 0)) u))) j = weight (v j) := fun j => by
  rw [← h j]; rfl

/-- The comparison with the middle of the interval, on arrays. -/
theorem middle_of {w : FVec F s .f32} {v : s.Idx → F .f32} (h : ∀ j, w j = v j) :
    ∀ j, cmpf .olt w (broadcast s (lit 0x40A00000#32)) j = middle (v j) := fun j => by
  rw [← h j]; rfl

/-- The polynomials' argument, on arrays. -/
theorem argument_of {w : FVec F s .f32} {c : IVec s 1} {v : s.Idx → F .f32} {d : s.Idx → BitVec 1} (h : ∀ j, w j = v j)
    (e : ∀ j, c j = d j) :
    ∀ j, select c (subf w (broadcast s (lit 0x40200000#32))) (subf (sqrt w) (broadcast s (lit 0x40400000#32))) j
      = argument (v j) (d j) := fun j => by
  rw [← h j, ← e j]; rfl

/-- The perturbed scores, from the uniform numbers `u`, the comparison `m` and the polynomials' argument `t`. -/
theorem score_of {z u t : FVec F s .f32} {m : IVec s 1} {x : s.Idx → Word} (hu : ∀ j, u j = uniform (F := F) (x j))
    (hm : ∀ j, m j = middle (weight (uniform (F := F) (x j))))
    (ht : ∀ j, t j = argument (weight (uniform (F := F) (x j))) (middle (weight (uniform (F := F) (x j))))) :
    ∀ j, addf z (mulf (broadcast s (lit 0x3D23D70A#32)) (mulf (broadcast s (lit 0x3FB504F3#32)) (mulf
      (addf (select m (broadcast s (lit 0x3FC02E2F#32)) (broadcast s (lit 0x40354F7E#32))) (mulf
      (addf (select m (broadcast s (lit 0x3E7C8F63#32)) (broadcast s (lit 0x3F8036DB#32))) (mulf
      (addf (select m (broadcast s (lit 0xBB88E4EF#32)) (broadcast s (lit 0x3C1AA57E#32))) (mulf
      (addf (select m (broadcast s (lit 0xBAA45408#32)) (broadcast s (lit 0xBBF9C5D7#32))) (mulf
      (addf (select m (broadcast s (lit 0x396532DB#32)) (broadcast s (lit 0x3BBC127B#32))) (mulf
      (addf (select m (broadcast s (lit 0xB6935AC1#32)) (broadcast s (lit 0xBB70BDE7#32))) (mulf
      (addf (select m (broadcast s (lit 0xB66C7357#32)) (broadcast s (lit 0x3AB0DC72#32))) (mulf
      (addf (select m (broadcast s (lit 0x34B84B36#32)) (broadcast s (lit 0x38D3B56B#32))) (mulf
      (select m (broadcast s (lit 0x32F16588#32)) (broadcast s (lit 0xB951F09B#32))) t)) t)) t)) t)) t)) t)) t)) t)) u))) j
      = score (z j) (x j) := fun j => by
  rw [score, normal, erfInv, ← ht j, ← hm j, ← hu j]; rfl

/-- The running best, on arrays. -/
theorem better_of {k : Word} {v a : FVec F s .f32} {b : IVec s 32} {w : s.Idx → F .f32} {p : s.Idx → F .f32 × Word}
    (hv : ∀ j, v j = w j) (h : ∀ j, a j = (p j).1 ∧ b j = (p j).2) :
    ∀ j, select (cmpf .ogt v a) v a j = (better k (w j) (p j)).1 ∧
      select (cmpf .ogt v a) (broadcast s k) b j = (better k (w j) (p j)).2 := fun j => by
  rw [better, ← hv j, ← (h j).1, ← (h j).2]; exact ⟨rfl, rfl⟩

/-- The last category's part of the running best, on arrays. -/
theorem better_last {k : Word} {v a : FVec F s .f32} {b : IVec s 32} {w : s.Idx → F .f32} {p : s.Idx → F .f32 × Word}
    (hv : ∀ j, v j = w j) (h : ∀ j, a j = (p j).1 ∧ b j = (p j).2) :
    ∀ j, select (cmpf .ogt v a) (broadcast s k) b j = (better k (w j) (p j)).2 := fun j => (better_of hv h j).2

end Cert.Sampler
-- ==== Proof.Choice.lean ====
/- What category the kernel's body draws for each pixel of a block: the sampler's choice, in each of the body's three cases. -/
module

public import proofs.«01_k».proof.Proof.Sampler
public import proofs.«01_k».proof.Proof.Gen.KernelIdeal.Frame

@[expose] public section

set_option maxHeartbeats 2000000

noncomputable section

namespace Cert.KernelIdeal.Block

open Idealize.ShloMosaic Cert.KernelIdeal.Gen Cert.Sampler

variable {F : FTy → Type} [FloatOps F] [Named F]

attribute [local irreducible] mix inject weight middle argument uniform state better

/-- At a block's first sample: the choice among the log-weights just written. -/
theorem choice_A (c : Dev nD) (i : grid0.Coords) (m2 : Memref sig .tc .smem S1 .f32) (h2 : m2.IsWhole) (m3 : Memref sig .tc .smem S1 .f32)
    (h3 : m3.IsWhole) (m4 : Memref sig .tc .vmem S8x112x128 .f32) (h4 : m4.IsWhole) (m5 : Memref sig .tc .vmem S8x112x128 .f32) (h5 : m5.IsWhole)
    (m6 : Memref sig .tc .vmem S8x112x128 .f32) (h6 : m6.IsWhole) (m : Memref sig .tc .vmem S9x112x128 .f32)
    (x0 x1 : Vec F S1 .f32) (x2 x3 x4 : Vec F S8x112x128 .f32) :
    ∀ j, kernelRun0_A.sl.v2333 c i m2 h2 m3 h3 m4 h4 m5 h5 m6 h6 m x0 x1 x2 x3 x4 j = choice ![kernelRun0_A.sl.v4 c m2 h2 m3 h3 m4 h4 m5 h5 m6 h6 m x0 x1 x2 x3 x4 j, kernelRun0_A.sl.v6 c m2 h2 m3 h3 m4 h4 m5 h5 m6 h6 m x0 x1 x2 x3 x4 j, kernelRun0_A.sl.v8 c m2 h2 m3 h3 m4 h4 m5 h5 m6 h6 m x0 x1 x2 x3 x4 j, kernelRun0_A.sl.v10 c m2 h2 m3 h3 m4 h4 m5 h5 m6 h6 m x0 x1 x2 x3 x4 j, kernelRun0_A.sl.v12 c m2 h2 m3 h3 m4 h4 m5 h5 m6 h6 m x0 x1 x2 x3 x4 j, kernelRun0_A.sl.v14 c m2 h2 m3 h3 m4 h4 m5 h5 m6 h6 m x0 x1 x2 x3 x4 j, kernelRun0_A.sl.v16 c m2 h2 m3 h3 m4 h4 m5 h5 m6 h6 m x0 x1 x2 x3 x4 j, kernelRun0_A.sl.v18 c m2 h2 m3 h3 m4 h4 m5 h5 m6 h6 m x0 x1 x2 x3 x4 j, kernelRun0_A.sl.v20 c m2 h2 m3 h3 m4 h4 m5 h5 m6 h6 m x0 x1 x2 x3 x4 j] (kernelRun0_A.sl.v33 i j) := by
  unfold choice best
  refine better_last ?_ ?_
  rotate_left
  iterate 7 refine better_of ?_ ?_; rotate_left
  refine fun j => ⟨?_, rfl⟩
  revert j
  all_goals
    refine score_of ?_ (middle_of (weight_of ?_)) (argument_of (weight_of ?_) (middle_of (weight_of ?_)))
  all_goals
    refine uniform_of ?_
    unfold state
    repeat' (first | refine mix_of ?_ | refine inject_of ?_)
    exact fun _ => ⟨rfl, rfl⟩

/-- At a middle sample: the choice among the log-weights the scratch holds. -/
theorem choice_B (c : Dev nD) (i : grid0.Coords) (m : Memref sig .tc .vmem S9x112x128 .f32) (h : m.IsWhole) (x : Vec F S9x112x128 .f32) :
    ∀ j, kernelRun0_B.sl.v2333 c i m h x j = choice ![kernelRun0_B.sl.v4 c m h x j, kernelRun0_B.sl.v6 c m h x j, kernelRun0_B.sl.v8 c m h x j, kernelRun0_B.sl.v10 c m h x j, kernelRun0_B.sl.v12 c m h x j, kernelRun0_B.sl.v14 c m h x j, kernelRun0_B.sl.v16 c m h x j, kernelRun0_B.sl.v18 c m h x j, kernelRun0_B.sl.v20 c m h x j] (kernelRun0_B.sl.v33 i j) := by
  unfold choice best
  refine better_last ?_ ?_
  rotate_left
  iterate 7 refine better_of ?_ ?_; rotate_left
  refine fun j => ⟨?_, rfl⟩
  revert j
  all_goals
    refine score_of ?_ (middle_of (weight_of ?_)) (argument_of (weight_of ?_) (middle_of (weight_of ?_)))
  all_goals
    refine uniform_of ?_
    unfold state
    repeat' (first | refine mix_of ?_ | refine inject_of ?_)
    exact fun _ => ⟨rfl, rfl⟩

/-- At the last sample: the choice among the log-weights the scratch holds. -/
theorem choice_C (c : Dev nD) (i : grid0.Coords) (m : Memref sig .tc .vmem S9x112x128 .f32) (h : m.IsWhole) (x : Vec F S9x112x128 .f32) :
    ∀ j, kernelRun0_C.sl.v2333 c i m h x j = choice ![kernelRun0_C.sl.v4 c m h x j, kernelRun0_C.sl.v6 c m h x j, kernelRun0_C.sl.v8 c m h x j, kernelRun0_C.sl.v10 c m h x j, kernelRun0_C.sl.v12 c m h x j, kernelRun0_C.sl.v14 c m h x j, kernelRun0_C.sl.v16 c m h x j, kernelRun0_C.sl.v18 c m h x j, kernelRun0_C.sl.v20 c m h x j] (kernelRun0_C.sl.v33 i j) := by
  unfold choice best
  refine better_last ?_ ?_
  rotate_left
  iterate 7 refine better_of ?_ ?_; rotate_left
  refine fun j => ⟨?_, rfl⟩
  revert j
  all_goals
    refine score_of ?_ (middle_of (weight_of ?_)) (argument_of (weight_of ?_) (middle_of (weight_of ?_)))
  all_goals
    refine uniform_of ?_
    unfold state
    repeat' (first | refine mix_of ?_ | refine inject_of ?_)
    exact fun _ => ⟨rfl, rfl⟩

end Cert.KernelIdeal.Block
-- ==== Proof.Layers.lean ====
/- A nine-layer block written and read one layer at a time. -/
module

public import proofs.«01_k».proof.Proof.Sampler
public import proofs.«01_k».proof.Proof.Gen.KernelIdeal.Frame
public import Idealize.ShloMosaic.Lib.ValueLayout

@[expose] public section

noncomputable section

namespace Cert.KernelIdeal.Block

open Idealize.ShloMosaic Idealize.ShloMosaic.ValueIdx Cert.KernelIdeal Cert.KernelIdeal.Gen Cert.Sampler

variable {F : FTy → Type} [FloatOps F] [Named F]

/-- The newest layer written is the one read. -/
theorem canon_hit (k : Fin 9) (r : Fin 112) (l : Fin 128) {inb : ∀ a, (![k.val, 0, 0] : Fin 3 → ℕ) a + S1x112x128.size a ≤ S9x112x128.size a}
    (w : S1x112x128.Idx → Elt F .f32) (L : List (View.Piece (Elt F) S9x112x128 .f32)) :
    View.canon ((⟨Rect.unit (s := S9x112x128) ![k.val, 0, 0] S1x112x128.size inb, w⟩ : View.Piece (Elt F) S9x112x128 .f32) :: L) (ix3 k r l)
      = w (ix3 0 r l) := by
  have he : (Rect.unit (s := S9x112x128) ![k.val, 0, 0] S1x112x128.size inb).emb (ix3 (0 : Fin 1) r l) = ix3 k r l := by
    funext x; apply Fin.ext
    match x with
    | ⟨0, _⟩ => show k.val + 1 * 0 = k.val; omega
    | ⟨1, _⟩ => show 0 + 1 * r.val = r.val; omega
    | ⟨2, _⟩ => show 0 + 1 * l.val = l.val; omega
  rw [← he]
  exact View.canon_cons_emb (Rect.unit (s := S9x112x128) ![k.val, 0, 0] S1x112x128.size inb) w L (ix3 (0 : Fin 1) r l)

/-- The newest layer written is another one. -/
theorem canon_miss (k n : Fin 9) (hn : n ≠ k) (r : Fin 112) (l : Fin 128) {inb : ∀ a, (![n.val, 0, 0] : Fin 3 → ℕ) a + S1x112x128.size a ≤ S9x112x128.size a}
    (w : S1x112x128.Idx → Elt F .f32) (L : List (View.Piece (Elt F) S9x112x128 .f32)) :
    View.canon ((⟨Rect.unit (s := S9x112x128) ![n.val, 0, 0] S1x112x128.size inb, w⟩ : View.Piece (Elt F) S9x112x128 .f32) :: L) (ix3 k r l)
      = View.canon L (ix3 k r l) := by
  refine View.canon_cons_of_not_mem _ L fun hm => hn (Fin.ext ?_)
  have h : n.val ≤ k.val ∧ k.val < n.val + 1 := (Rect.mem_set_unit (inb := inb)).mp hm (0 : Fin 3)
  omega

/-- Nine layers written from the first to the last hold, at each place, what the place's layer was written with. -/
theorem canon_nine {G : Fin 9 → Elt F .f32} {r : Fin 112} {l : Fin 128} {w0 w1 w2 w3 w4 w5 w6 w7 w8 : S1x112x128.Idx → Elt F .f32}
    {i0 : ∀ a, (![0, 0, 0] : Fin 3 → ℕ) a + S1x112x128.size a ≤ S9x112x128.size a} {i1 : ∀ a, (![1, 0, 0] : Fin 3 → ℕ) a + S1x112x128.size a ≤ S9x112x128.size a}
    {i2 : ∀ a, (![2, 0, 0] : Fin 3 → ℕ) a + S1x112x128.size a ≤ S9x112x128.size a} {i3 : ∀ a, (![3, 0, 0] : Fin 3 → ℕ) a + S1x112x128.size a ≤ S9x112x128.size a}
    {i4 : ∀ a, (![4, 0, 0] : Fin 3 → ℕ) a + S1x112x128.size a ≤ S9x112x128.size a} {i5 : ∀ a, (![5, 0, 0] : Fin 3 → ℕ) a + S1x112x128.size a ≤ S9x112x128.size a}
    {i6 : ∀ a, (![6, 0, 0] : Fin 3 → ℕ) a + S1x112x128.size a ≤ S9x112x128.size a} {i7 : ∀ a, (![7, 0, 0] : Fin 3 → ℕ) a + S1x112x128.size a ≤ S9x112x128.size a}
    {i8 : ∀ a, (![8, 0, 0] : Fin 3 → ℕ) a + S1x112x128.size a ≤ S9x112x128.size a}
    (h0 : w0 (ix3 0 r l) = G 0) (h1 : w1 (ix3 0 r l) = G 1) (h2 : w2 (ix3 0 r l) = G 2) (h3 : w3 (ix3 0 r l) = G 3) (h4 : w4 (ix3 0 r l) = G 4)
    (h5 : w5 (ix3 0 r l) = G 5) (h6 : w6 (ix3 0 r l) = G 6) (h7 : w7 (ix3 0 r l) = G 7) (h8 : w8 (ix3 0 r l) = G 8) (k : Fin 9) :
    View.canon [(⟨Rect.unit (s := S9x112x128) ![8, 0, 0] S1x112x128.size i8, w8⟩ : View.Piece (Elt F) S9x112x128 .f32),
      ⟨Rect.unit (s := S9x112x128) ![7, 0, 0] S1x112x128.size i7, w7⟩, ⟨Rect.unit (s := S9x112x128) ![6, 0, 0] S1x112x128.size i6, w6⟩,
      ⟨Rect.unit (s := S9x112x128) ![5, 0, 0] S1x112x128.size i5, w5⟩, ⟨Rect.unit (s := S9x112x128) ![4, 0, 0] S1x112x128.size i4, w4⟩,
      ⟨Rect.unit (s := S9x112x128) ![3, 0, 0] S1x112x128.size i3, w3⟩, ⟨Rect.unit (s := S9x112x128) ![2, 0, 0] S1x112x128.size i2, w2⟩,
      ⟨Rect.unit (s := S9x112x128) ![1, 0, 0] S1x112x128.size i1, w1⟩, ⟨Rect.unit (s := S9x112x128) ![0, 0, 0] S1x112x128.size i0, w0⟩] (ix3 k r l) = G k := by
  by_cases k8 : 8 = k
  · subst k8; exact (canon_hit 8 r l w8 _).trans h8
  refine (canon_miss k 8 k8 r l w8 _).trans ?_
  by_cases k7 : 7 = k
  · subst k7; exact (canon_hit 7 r l w7 _).trans h7
  refine (canon_miss k 7 k7 r l w7 _).trans ?_
  by_cases k6 : 6 = k
  · subst k6; exact (canon_hit 6 r l w6 _).trans h6
  refine (canon_miss k 6 k6 r l w6 _).trans ?_
  by_cases k5 : 5 = k
  · subst k5; exact (canon_hit 5 r l w5 _).trans h5
  refine (canon_miss k 5 k5 r l w5 _).trans ?_
  by_cases k4 : 4 = k
  · subst k4; exact (canon_hit 4 r l w4 _).trans h4
  refine (canon_miss k 4 k4 r l w4 _).trans ?_
  by_cases k3 : 3 = k
  · subst k3; exact (canon_hit 3 r l w3 _).trans h3
  refine (canon_miss k 3 k3 r l w3 _).trans ?_
  by_cases k2 : 2 = k
  · subst k2; exact (canon_hit 2 r l w2 _).trans h2
  refine (canon_miss k 2 k2 r l w2 _).trans ?_
  by_cases k1 : 1 = k
  · subst k1; exact (canon_hit 1 r l w1 _).trans h1
  refine (canon_miss k 1 k1 r l w1 _).trans ?_
  obtain rfl : 0 = k := by omega
  exact (canon_hit 0 r l w0 _).trans h0

/-- A layer of a held block of nine, read as a plane. -/
theorem layer (m : Memref sig .tc .vmem S9x112x128 .f32) (h : m.IsWhole) (x : Vec F S9x112x128 .f32) (k : Fin 9) (r : Fin 112) (l : Fin 128)
    {inb : ∀ a, (![k.val, 0, 0] : Fin 3 → ℕ) a + S1x112x128.size a ≤ S9x112x128.size a} :
    shapeCast S112x128 (m.view.readAt (Elt F) (Rect.unit (s := S9x112x128) ![k.val, 0, 0] S1x112x128.size inb).toLoadRect (h.unread x))
      shapeCasts_S1x112x128_S112x128 (ix2 r l) = x (ix3 k r l) := by
  refine (shapeCast_1ab_ab_apply ..).trans ?_
  rw [View.readAt_eq_ld, h.read_unread]
  refine congrArg x (funext fun a => Fin.ext ?_)
  match a with
  | ⟨0, _⟩ => show k.val + 1 * 0 = k.val; omega
  | ⟨1, _⟩ => show 0 + 1 * r.val = r.val; omega
  | ⟨2, _⟩ => show 0 + 1 * l.val = l.val; omega

/-- A layer of a held block of eight, read as a plane. -/
theorem face (m : Memref sig .tc .vmem S8x112x128 .f32) (h : m.IsWhole) (x : Vec F S8x112x128 .f32) (k : Fin 8) (r : Fin 112) (l : Fin 128)
    {inb : ∀ a, (![k.val, 0, 0] : Fin 3 → ℕ) a + S1x112x128.size a ≤ S8x112x128.size a} :
    shapeCast S112x128 (m.view.readAt (Elt F) (Rect.unit (s := S8x112x128) ![k.val, 0, 0] S1x112x128.size inb).toLoadRect (h.unread x))
      shapeCasts_S1x112x128_S112x128 (ix2 r l) = x (ix3 k r l) := by
  refine (shapeCast_1ab_ab_apply ..).trans ?_
  rw [View.readAt_eq_ld, h.read_unread]
  refine congrArg x (funext fun a => Fin.ext ?_)
  match a with
  | ⟨0, _⟩ => show k.val + 1 * 0 = k.val; omega
  | ⟨1, _⟩ => show 0 + 1 * r.val = r.val; omega
  | ⟨2, _⟩ => show 0 + 1 * l.val = l.val; omega

/-- A layer of a block written a layer at a time, read as a plane. -/
theorem written (m : Memref sig .tc .vmem S9x112x128 .f32) (L : List (View.Piece (Elt F) S9x112x128 .f32)) (k : Fin 9) (r : Fin 112) (l : Fin 128)
    {inb : ∀ a, (![k.val, 0, 0] : Fin 3 → ℕ) a + S1x112x128.size a ≤ S9x112x128.size a} :
    shapeCast S112x128 (m.view.readCov L (Rect.unit (s := S9x112x128) ![k.val, 0, 0] S1x112x128.size inb).toLoadRect)
      shapeCasts_S1x112x128_S112x128 (ix2 r l) = View.canon L (ix3 k r l) := by
  refine (shapeCast_1ab_ab_apply ..).trans ?_
  rw [View.readCov_eq_canon']
  refine congrArg (View.canon L) (funext fun a => Fin.ext ?_)
  match a with
  | ⟨0, _⟩ => show k.val + 1 * 0 = k.val; omega
  | ⟨1, _⟩ => show 0 + 1 * r.val = r.val; omega
  | ⟨2, _⟩ => show 0 + 1 * l.val = l.val; omega

/-- Whether a chosen category is the category `k`, as the kernel makes it a number. -/
def mark (c k : Word) : F .f32 := FloatOps.sitofp .f32 ((IntOp.cmpi .eq c k).setWidth 32)

/-- What is put in a layer at the first sample. -/
theorem put (v : IVec S112x128 32) (k : Word) (r : Fin 112) (l : Fin 128) :
    shapeCast S1x112x128 (sitofp (F := F) .f32 (extui 32 (cmpi .eq v (broadcast S112x128 k)))) shapeCasts_S112x128_S1x112x128 (ix3 0 r l)
      = mark (v (ix2 r l)) k :=
  shapeCast_ab_1ab_apply ..

/-- What is put in a layer at a middle sample. -/
theorem add (m : Memref sig .tc .vmem S9x112x128 .f32) (h : m.IsWhole) (x : Vec F S9x112x128 .f32) (k : Fin 9) (r : Fin 112) (l : Fin 128)
    {inb : ∀ a, (![k.val, 0, 0] : Fin 3 → ℕ) a + S1x112x128.size a ≤ S9x112x128.size a} (v : IVec S112x128 32) (w : Word) :
    shapeCast S1x112x128 (addf (shapeCast S112x128 (m.view.readAt (Elt F) (Rect.unit (s := S9x112x128) ![k.val, 0, 0] S1x112x128.size inb).toLoadRect (h.unread x))
      shapeCasts_S1x112x128_S112x128) (sitofp (F := F) .f32 (extui 32 (cmpi .eq v (broadcast S112x128 w))))) shapeCasts_S112x128_S1x112x128 (ix3 0 r l)
      = FloatOps.addf (x (ix3 k r l)) (mark (v (ix2 r l)) w) :=
  (shapeCast_ab_1ab_apply ..).trans (congrArg (FloatOps.addf · _) (layer m h x k r l))

/-- What is put in a layer at the last sample. -/
theorem close (m : Memref sig .tc .vmem S9x112x128 .f32) (h : m.IsWhole) (x : Vec F S9x112x128 .f32) (k : Fin 9) (r : Fin 112) (l : Fin 128)
    {inb : ∀ a, (![k.val, 0, 0] : Fin 3 → ℕ) a + S1x112x128.size a ≤ S9x112x128.size a} (v : IVec S112x128 32) (w : Word) :
    shapeCast S1x112x128 (mulf (addf (shapeCast S112x128 (m.view.readAt (Elt F) (Rect.unit (s := S9x112x128) ![k.val, 0, 0] S1x112x128.size inb).toLoadRect (h.unread x))
      shapeCasts_S1x112x128_S112x128) (sitofp (F := F) .f32 (extui 32 (cmpi .eq v (broadcast S112x128 w)))))
      (broadcast S112x128 (lit (F := F) 0x3D800000#32))) shapeCasts_S112x128_S1x112x128 (ix3 0 r l)
      = FloatOps.mulf (FloatOps.addf (x (ix3 k r l)) (mark (v (ix2 r l)) w)) (lit 0x3D800000#32) :=
  (shapeCast_ab_1ab_apply ..).trans (congrArg (fun y => FloatOps.mulf (FloatOps.addf y _) _) (layer m h x k r l))

end Cert.KernelIdeal.Block
-- ==== Proof.Points.lean ====
/- What the kernel's body leaves after each grid point, layer by layer. -/
module

public import proofs.«01_k».proof.Proof.Choice
public import proofs.«01_k».proof.Proof.Layers

@[expose] public section

set_option maxHeartbeats 1000000
set_option maxRecDepth 4000

noncomputable section

namespace Cert.KernelIdeal.Block

open Idealize.ShloMosaic Idealize.ShloMosaic.ValueIdx Cert.KernelIdeal Cert.KernelIdeal.Gen Cert.Sampler

variable {F : FTy → Type} [FloatOps F] [Named F]

/-- The counter of the first category of a block's pixel: `i` numbers the block, `s` the sample, `r` the row and `l` the lane. -/
def counter (i s r l : ℕ) : Word := BitVec.ofNat 32 (((i * 112 + r) * 128 + l) * 9 + s * 1806336)

/-- The words the body computes its counters with. -/
theorem counter_eq (i s r l : ℕ) : counter i s r l
    = ((BitVec.ofNat 32 i * 112#32 + BitVec.ofNat 32 r) * 128#32 + BitVec.ofNat 32 l) * 9#32 + BitVec.ofNat 32 s * 1806336#32 := by
  unfold counter
  simp only [BitVec.ofNat_add, BitVec.ofNat_mul]

theorem counter_A (i : grid0.Coords) (r : Fin 112) (l : Fin 128) : kernelRun0_A.sl.v33 i (ix2 r l) = counter (i 0).val (i 1).val r.val l.val := by
  rw [counter_eq]
  exact congrArg (fun x => (x * 9#32 + _ : Word)) (congrArg₂ (fun x y => ((BitVec.ofNat 32 (i 0).val * 112#32 + x) * 128#32 + y : Word)) (iota_single_apply ..) (iota_single_apply ..))

theorem counter_B (i : grid0.Coords) (r : Fin 112) (l : Fin 128) : kernelRun0_B.sl.v33 i (ix2 r l) = counter (i 0).val (i 1).val r.val l.val :=
  counter_A i r l

theorem counter_C (i : grid0.Coords) (r : Fin 112) (l : Fin 128) : kernelRun0_C.sl.v33 i (ix2 r l) = counter (i 0).val (i 1).val r.val l.val :=
  counter_A i r l

/-- The category a middle sample draws, from what the scratch holds. -/
theorem drawn_B (c : Dev nD) (i : grid0.Coords) (m : Memref sig .tc .vmem S9x112x128 .f32) (h : m.IsWhole) (x : Vec F S9x112x128 .f32)
    (r : Fin 112) (l : Fin 128) :
    kernelRun0_B.sl.v2333 c i m h x (ix2 r l) = choice (fun n => x (ix3 n r l)) (counter (i 0).val (i 1).val r.val l.val) :=
  (choice_B c i m h x (ix2 r l)).trans (congrArg₂ choice (funext fun n => match n with
    | ⟨0, _⟩ => layer m h x 0 r l
    | ⟨1, _⟩ => layer m h x 1 r l
    | ⟨2, _⟩ => layer m h x 2 r l
    | ⟨3, _⟩ => layer m h x 3 r l
    | ⟨4, _⟩ => layer m h x 4 r l
    | ⟨5, _⟩ => layer m h x 5 r l
    | ⟨6, _⟩ => layer m h x 6 r l
    | ⟨7, _⟩ => layer m h x 7 r l
    | ⟨8, _⟩ => layer m h x 8 r l) (counter_B i r l))

/-- The category the last sample draws, from what the scratch holds. -/
theorem drawn_C (c : Dev nD) (i : grid0.Coords) (m : Memref sig .tc .vmem S9x112x128 .f32) (h : m.IsWhole) (x : Vec F S9x112x128 .f32)
    (r : Fin 112) (l : Fin 128) :
    kernelRun0_C.sl.v2333 c i m h x (ix2 r l) = choice (fun n => x (ix3 n r l)) (counter (i 0).val (i 1).val r.val l.val) :=
  (choice_C c i m h x (ix2 r l)).trans (congrArg₂ choice (funext fun n => match n with
    | ⟨0, _⟩ => layer m h x 0 r l
    | ⟨1, _⟩ => layer m h x 1 r l
    | ⟨2, _⟩ => layer m h x 2 r l
    | ⟨3, _⟩ => layer m h x 3 r l
    | ⟨4, _⟩ => layer m h x 4 r l
    | ⟨5, _⟩ => layer m h x 5 r l
    | ⟨6, _⟩ => layer m h x 6 r l
    | ⟨7, _⟩ => layer m h x 7 r l
    | ⟨8, _⟩ => layer m h x 8 r l) (counter_C i r l))

/-- The category the first sample draws, from the layers it has written to the scratch. -/
theorem drawn_A (c : Dev nD) (i : grid0.Coords) (m2 : Memref sig .tc .smem S1 .f32) (h2 : m2.IsWhole) (m3 : Memref sig .tc .smem S1 .f32)
    (h3 : m3.IsWhole) (m4 : Memref sig .tc .vmem S8x112x128 .f32) (h4 : m4.IsWhole) (m5 : Memref sig .tc .vmem S8x112x128 .f32) (h5 : m5.IsWhole)
    (m6 : Memref sig .tc .vmem S8x112x128 .f32) (h6 : m6.IsWhole) (m : Memref sig .tc .vmem S9x112x128 .f32)
    (x0 x1 : Vec F S1 .f32) (x2 x3 x4 : Vec F S8x112x128 .f32) (r : Fin 112) (l : Fin 128) :
    kernelRun0_A.sl.v2333 c i m2 h2 m3 h3 m4 h4 m5 h5 m6 h6 m x0 x1 x2 x3 x4 (ix2 r l)
      = choice (fun n => View.canon (kernelRun0_A.sl.HS0_9 c m2 h2 m3 h3 m4 h4 m5 h5 m6 h6 x0 x1 x2 x3 x4) (ix3 n r l))
        (counter (i 0).val (i 1).val r.val l.val) :=
  (choice_A c i m2 h2 m3 h3 m4 h4 m5 h5 m6 h6 m x0 x1 x2 x3 x4 (ix2 r l)).trans (congrArg₂ choice (funext fun n => match n with
    | ⟨0, _⟩ => written m _ 0 r l
    | ⟨1, _⟩ => written m _ 1 r l
    | ⟨2, _⟩ => written m _ 2 r l
    | ⟨3, _⟩ => written m _ 3 r l
    | ⟨4, _⟩ => written m _ 4 r l
    | ⟨5, _⟩ => written m _ 5 r l
    | ⟨6, _⟩ => written m _ 6 r l
    | ⟨7, _⟩ => written m _ 7 r l
    | ⟨8, _⟩ => written m _ 8 r l) (counter_A i r l))

variable (m : (ℓ : Loc nD τ sig) → Buf (Elt F) ℓ)

/-- What the output's block holds after a grid point. -/
abbrev out (c : Dev nD) (n : ℕ) (hn : n < cfg0.N) : Vec F S9x112x128 .f32 := (outsAt0 m c n hn).1

/-- What the scratch holds after a grid point. -/
abbrev held (c : Dev nD) (n : ℕ) (hn : n < cfg0.N) : Vec F S9x112x128 .f32 := (outsAt0 m c n hn).2

/-- The category drawn at a grid point for a pixel of the block. -/
def drawn (c : Dev nD) (t : Fin cfg0.N) (r : Fin 112) (l : Fin 128) : Word :=
  choice (fun n => held m c t.val t.isLt (ix3 n r l)) (counter (grid0.coords t 0).val (grid0.coords t 1).val r.val l.val)

/-- A middle sample leaves the scratch as it was. -/
theorem held_B (c : Dev nD) (t : Fin cfg0.N) (a : ¬t.val % 16 = 0) (b : 1 ≤ t.val % 16 ∧ t.val % 16 ≤ 14) (d : ¬t.val % 16 = 15) :
    held m c t.val t.isLt = held m c (t.val - 1) (Nat.lt_of_le_of_lt (Nat.sub_le _ _) t.isLt) := by
  unfold held
  rw [outsAt0_B m c t a a b d a b d a b d a b d a b d a b d a b d a b d a b d]
  rfl

/-- The last sample leaves the scratch as it was. -/
theorem held_C (c : Dev nD) (t : Fin cfg0.N) (a : ¬t.val % 16 = 0) (b : ¬(1 ≤ t.val % 16 ∧ t.val % 16 ≤ 14)) (d : t.val % 16 = 15) :
    held m c t.val t.isLt = held m c (t.val - 1) (Nat.lt_of_le_of_lt (Nat.sub_le _ _) t.isLt) := by
  unfold held
  rw [outsAt0_C m c t a a b d a b d a b d a b d a b d a b d a b d a b d a b d]
  rfl

/-- A middle sample adds its mark to what the block held. -/
theorem out_B (c : Dev nD) (t : Fin cfg0.N) (a : ¬t.val % 16 = 0) (b : 1 ≤ t.val % 16 ∧ t.val % 16 ≤ 14) (d : ¬t.val % 16 = 15)
    (k : Fin 9) (r : Fin 112) (l : Fin 128) :
    out m c t.val t.isLt (ix3 k r l) = FloatOps.addf (out m c (t.val - 1) (Nat.lt_of_le_of_lt (Nat.sub_le _ _) t.isLt) (ix3 k r l))
      (mark (drawn m c t r l) (BitVec.ofNat 32 k.val)) := by
  rw [drawn, held_B m c t a b d, ← drawn_B c (grid0.coords t) scM0_0 (Memref.isWhole_whole _)]
  unfold out
  rw [outsAt0_B m c t a a b d a b d a b d a b d a b d a b d a b d a b d a b d]
  dsimp only
  unfold out0_B_5
  rw [View.read_writes_junk_eq_canon]
  delta kernelRun0_B
  dsimp only
  exact canon_nine (G := fun k => FloatOps.addf ((outsAt0 m c (t.val - 1) _).1 (ix3 k r l)) (mark _ (BitVec.ofNat 32 k.val)))
    (add _ _ _ 0 r l _ _) (add _ _ _ 1 r l _ _) (add _ _ _ 2 r l _ _) (add _ _ _ 3 r l _ _) (add _ _ _ 4 r l _ _)
    (add _ _ _ 5 r l _ _) (add _ _ _ 6 r l _ _) (add _ _ _ 7 r l _ _) (add _ _ _ 8 r l _ _) k

/-- The last sample adds its mark to what the block held and takes a sixteenth of the sum. -/
theorem out_C (c : Dev nD) (t : Fin cfg0.N) (a : ¬t.val % 16 = 0) (b : ¬(1 ≤ t.val % 16 ∧ t.val % 16 ≤ 14)) (d : t.val % 16 = 15)
    (k : Fin 9) (r : Fin 112) (l : Fin 128) :
    out m c t.val t.isLt (ix3 k r l) = FloatOps.mulf (FloatOps.addf (out m c (t.val - 1) (Nat.lt_of_le_of_lt (Nat.sub_le _ _) t.isLt) (ix3 k r l))
      (mark (drawn m c t r l) (BitVec.ofNat 32 k.val))) (lit 0x3D800000#32) := by
  rw [drawn, held_C m c t a b d, ← drawn_C c (grid0.coords t) scM0_0 (Memref.isWhole_whole _)]
  unfold out
  rw [outsAt0_C m c t a a b d a b d a b d a b d a b d a b d a b d a b d a b d]
  dsimp only
  unfold out0_C_5
  rw [View.read_writes_junk_eq_canon]
  delta kernelRun0_C
  dsimp only
  exact canon_nine (G := fun k => FloatOps.mulf (FloatOps.addf ((outsAt0 m c (t.val - 1) _).1 (ix3 k r l)) (mark _ (BitVec.ofNat 32 k.val))) (lit 0x3D800000#32))
    (close _ _ _ 0 r l _ _) (close _ _ _ 1 r l _ _) (close _ _ _ 2 r l _ _) (close _ _ _ 3 r l _ _) (close _ _ _ 4 r l _ _)
    (close _ _ _ 5 r l _ _) (close _ _ _ 6 r l _ _) (close _ _ _ 7 r l _ _) (close _ _ _ 8 r l _ _) k

/-- The first sample fills the scratch. -/
theorem held_A (c : Dev nD) (t : Fin cfg0.N) (a : t.val % 16 = 0) (b : ¬(1 ≤ t.val % 16 ∧ t.val % 16 ≤ 14)) (d : ¬t.val % 16 = 15) :
    held m c t.val t.isLt = View.canon (kernelRun0_A.sl.HS0_9 c (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t) (iblk m c 4 t)) := by
  unfold held
  rw [outsAt0_A m c t a a b d a b d a b d a b d a b d a b d a b d a b d a b d]
  dsimp only
  unfold sout0_A_0
  rw [View.read_writes_junk_eq_canon]
  delta kernelRun0_A
  rfl

/-- The first sample puts its mark in the block. -/
theorem out_A (c : Dev nD) (t : Fin cfg0.N) (a : t.val % 16 = 0) (b : ¬(1 ≤ t.val % 16 ∧ t.val % 16 ≤ 14)) (d : ¬t.val % 16 = 15)
    (k : Fin 9) (r : Fin 112) (l : Fin 128) :
    out m c t.val t.isLt (ix3 k r l) = mark (drawn m c t r l) (BitVec.ofNat 32 k.val) := by
  rw [drawn, held_A m c t a b d, ← drawn_A c (grid0.coords t) _ _ _ _ _ _ _ _ _ _ scM0_0]
  unfold out
  rw [outsAt0_A m c t a a b d a b d a b d a b d a b d a b d a b d a b d a b d]
  dsimp only
  unfold out0_A_5
  rw [View.read_writes_junk_eq_canon]
  delta kernelRun0_A
  dsimp only
  exact canon_nine (G := fun k => mark _ (BitVec.ofNat 32 k.val)) (put _ _ r l) (put _ _ r l) (put _ _ r l) (put _ _ r l) (put _ _ r l)
    (put _ _ r l) (put _ _ r l) (put _ _ r l) (put _ _ r l) k

end Cert.KernelIdeal.Block
-- ==== Proof.Weights.lean ====
/- The mathematics of one pixel: the log-weights of its nine categories and the share of the samples that each gets. -/
module

public import proofs.«01_k».proof.Proof.Sampler
public import proofs.«01_k».proof.Defs
public import Idealize.ShloMosaic.Lib.IdealHost

@[expose] public section

noncomputable section

namespace Cert.Sampler

open Idealize.ShloMosaic

/-- The normalised inverse depth of one face, masked. -/
def depth (zf zn zb mk : Ideal .f32) : Ideal .f32 := FloatOps.mulf (FloatOps.divf (FloatOps.subf zf zb) (FloatOps.subf zf zn)) mk

/-- The greatest of a pixel's eight inverse depths, and of the small constant. -/
def deepest (d : Fin 8 → Ideal .f32) : Ideal .f32 :=
  FloatOps.maximumf (FloatOps.maximumf (FloatOps.maximumf (FloatOps.maximumf (FloatOps.maximumf (FloatOps.maximumf
    (FloatOps.maximumf (FloatOps.maximumf (d 0) (d 1)) (d 2)) (d 3)) (d 4)) (d 5)) (d 6)) (d 7)) (lit 0x2EDBE6FF#32)

/-- The log-weight of one face: the scaled logarithm of its probability, plus its inverse depth, minus the greatest. -/
def logWeight (pm d m : Ideal .f32) : Ideal .f32 := FloatOps.subf (FloatOps.addf (FloatOps.mulf (lit 0x3D23D70A#32) (FloatOps.log pm)) d) m

/-- The log-weights of a pixel's nine categories, the last one being the background. -/
def weights (zf zn : Ideal .f32) (zb pm mk : Fin 8 → Ideal .f32) : Fin 9 → Ideal .f32 :=
  Fin.lastCases (FloatOps.subf (lit 0x2EDBE6FF#32) (deepest fun k => depth zf zn (zb k) (mk k)))
    fun k => logWeight (pm k) (depth zf zn (zb k) (mk k)) (deepest fun k => depth zf zn (zb k) (mk k))

theorem weights_face (zf zn : Ideal .f32) (zb pm mk : Fin 8 → Ideal .f32) (k : Fin 8) :
    weights zf zn zb pm mk k.castSucc = logWeight (pm k) (depth zf zn (zb k) (mk k)) (deepest fun k => depth zf zn (zb k) (mk k)) :=
  Fin.lastCases_castSucc ..

theorem weights_last (zf zn : Ideal .f32) (zb pm mk : Fin 8 → Ideal .f32) :
    weights zf zn zb pm mk 8 = FloatOps.subf (lit 0x2EDBE6FF#32) (deepest fun k => depth zf zn (zb k) (mk k)) :=
  Fin.lastCases_last

/-- Whether a chosen category is category `k`, as the number 1 or 0. -/
def hit (c k : Word) : Ideal .f32 := FloatOps.uitofp .f32 (IntOp.cmpi .eq c k)

/-- The counter of a pixel's first category in a sample: `a` is the image, `r` the row and `l` the column. -/
def base (s a r l : ℕ) : Word := BitVec.ofNat 32 (1806336 * s + 451584 * a + 2016 * r + 9 * l)

/-- The share of the sixteen samples in which a pixel's category `k` is chosen. -/
def share (z : Fin 9 → Ideal .f32) (a r l : ℕ) (k : Word) : EReal :=
  (∑ s : Fin 16, hit (choice z (base s.val a r l)) k) * ((1 / 16 : ℝ) : EReal)

end Cert.Sampler
-- ==== Proof.Fill.lean ====
/- What the first sample of a block fills the scratch with: the log-weights of the block's pixels. -/
module

public import proofs.«01_k».proof.Proof.Points
public import proofs.«01_k».proof.Proof.Weights

@[expose] public section

set_option maxHeartbeats 1000000
set_option maxRecDepth 4000

noncomputable section

namespace Cert.KernelIdeal.Block

open Idealize.ShloMosaic
open Idealize.ShloMosaic.ValueIdx
open Cert.KernelIdeal Cert.KernelIdeal.Gen Cert.Sampler

/-- The number that a one-number block holds, as the body reads it. -/
theorem number (m : Memref sig .tc .smem S1 .f32) (h : m.IsWhole) (x : Vec Ideal S1 .f32)
    {inb : ∀ a, (![0] : Fin 1 → ℕ) a + S1.size a ≤ S1.size a} {pos : 0 < (Rect.unit (s := S1) ![0] S1.size inb).toLoadRect.shape.numel} :
    m.view.readAt (Elt Ideal) (Rect.unit (s := S1) ![0] S1.size inb).toLoadRect (h.unread x) (Shape.Idx.first pos) = x (ix1 0) := by
  rw [View.readAt_eq_ld, h.read_unread]
  refine congrArg x (funext fun a => Fin.ext ?_)
  match a with
  | ⟨0, _⟩ => rfl

variable (c : Dev nD) (m2 : Memref sig .tc .smem S1 .f32) (h2 : m2.IsWhole) (m3 : Memref sig .tc .smem S1 .f32)
    (h3 : m3.IsWhole) (m4 : Memref sig .tc .vmem S8x112x128 .f32) (h4 : m4.IsWhole) (m5 : Memref sig .tc .vmem S8x112x128 .f32) (h5 : m5.IsWhole)
    (m6 : Memref sig .tc .vmem S8x112x128 .f32) (h6 : m6.IsWhole)
    (x0 x1 : Vec Ideal S1 .f32) (x2 x3 x4 : Vec Ideal S8x112x128 .f32) (r : Fin 112) (l : Fin 128)

/-- The inverse depth of a face at a pixel of the block. -/
abbrev inverse (k : Fin 8) : Ideal .f32 := depth (x0 (ix1 0)) (x1 (ix1 0)) (x2 (ix3 k r l)) (x4 (ix3 k r l))

/-- The body's inverse depth of a face is the specified one. -/
theorem inverse_eq (k : Fin 8) (e2 e3 : Ideal .f32) (p2 : e2 = x0 (ix1 0)) (p3 : e3 = x1 (ix1 0))
    {inb inb' : ∀ a, (![k.val, 0, 0] : Fin 3 → ℕ) a + S1x112x128.size a ≤ S8x112x128.size a} :
    mulf (F := Ideal) (φ := .f32) (divf (subf (broadcast S112x128 e2) (shapeCast S112x128 (m4.view.readAt (Elt Ideal) (Rect.unit (s := S8x112x128) ![k.val, 0, 0] S1x112x128.size inb).toLoadRect (h4.unread x2))
      shapeCasts_S1x112x128_S112x128)) (broadcast S112x128 (FloatOps.subf (F := Ideal) (φ := .f32) e2 e3)))
      (shapeCast S112x128 (m6.view.readAt (Elt Ideal) (Rect.unit (s := S8x112x128) ![k.val, 0, 0] S1x112x128.size inb').toLoadRect (h6.unread x4))
      shapeCasts_S1x112x128_S112x128) (ix2 r l) = inverse x0 x1 x2 x4 r l k := by
  subst p2 p3
  exact congrArg₂ (depth _ _) (face m4 h4 x2 k r l) (face m6 h6 x4 k r l)

/-- The body's greatest inverse depth at a pixel is the specified one. -/
theorem deepest_eq : kernelRun0_A.sl.v2552 (F := Ideal) c m2 h2 m3 h3 m4 h4 m6 h6 x0 x1 x2 x4 (ix2 r l) = deepest (inverse x0 x1 x2 x4 r l) := by
  have e (k : Fin 8) := @inverse_eq m4 h4 m6 h6 x0 x1 x2 x4 r l k (kernelRun0_A.sl.r c m2 h2 x0) (kernelRun0_A.sl.r_1 c m3 h3 x1) (number m2 h2 x0) (number m3 h3 x1)
  have c2 {a a' b b' : Ideal .f32} (p : a = a') (q : b = b') : FloatOps.maximumf a b = FloatOps.maximumf a' b' := by rw [p, q]
  exact c2 (c2 (c2 (c2 (c2 (c2 (c2 (c2 (e 0) (e 1)) (e 2)) (e 3)) (e 4)) (e 5)) (e 6)) (e 7)) rfl

/-- The log-weights of a pixel of the block. -/
abbrev logs : Fin 9 → Ideal .f32 :=
  weights (x0 (ix1 0)) (x1 (ix1 0)) (fun k => x2 (ix3 k r l)) (fun k => x3 (ix3 k r l)) (fun k => x4 (ix3 k r l))

/-- A face's layer of the scratch holds the specified log-weight. -/
theorem face_eq (k : Fin 8) (d e : FVec Ideal S112x128 .f32) (p : d (ix2 r l) = inverse x0 x1 x2 x4 r l k) (q : e (ix2 r l) = deepest (inverse x0 x1 x2 x4 r l))
    {inb : ∀ a, (![k.val, 0, 0] : Fin 3 → ℕ) a + S1x112x128.size a ≤ S8x112x128.size a} :
    shapeCast S1x112x128 (subf (F := Ideal) (φ := .f32) (addf (mulf (broadcast S112x128 (lit (F := Ideal) 0x3D23D70A#32))
      (Idealize.ShloMosaic.log (shapeCast S112x128 (m5.view.readAt (Elt Ideal) (Rect.unit (s := S8x112x128) ![k.val, 0, 0] S1x112x128.size inb).toLoadRect (h5.unread x3))
        shapeCasts_S1x112x128_S112x128))) d) e) shapeCasts_S112x128_S1x112x128 (ix3 0 r l) = logs x0 x1 x2 x3 x4 r l k.castSucc := by
  refine (shapeCast_ab_1ab_apply ..).trans ((Eq.trans ?_ (weights_face ..).symm))
  have f := face m5 h5 x3 k r l (inb := inb)
  show logWeight _ (d (ix2 r l)) (e (ix2 r l)) = _
  rw [p, q]
  exact congrArg (fun x => logWeight x _ _) f

/-- The background's layer of the scratch holds the specified log-weight. -/
theorem background_eq : kernelRun0_A.sl.v2637 (F := Ideal) c m2 h2 m3 h3 m4 h4 m6 h6 x0 x1 x2 x4 (ix3 0 r l) = logs x0 x1 x2 x3 x4 r l 8 := by
  refine (shapeCast_ab_1ab_apply ..).trans (Eq.trans ?_ (weights_last ..).symm)
  exact congrArg (FloatOps.subf (F := Ideal) (φ := .f32) (lit 0x2EDBE6FF#32)) (deepest_eq c m2 h2 m3 h3 m4 h4 m6 h6 x0 x1 x2 x4 r l)

/-- The scratch holds the log-weights of the block's pixels. -/
theorem filled (k : Fin 9) : View.canon (kernelRun0_A.sl.HS0_9 (F := Ideal) c m2 h2 m3 h3 m4 h4 m5 h5 m6 h6 x0 x1 x2 x3 x4) (ix3 k r l)
    = logs x0 x1 x2 x3 x4 r l k := by
  have e (k : Fin 8) := @inverse_eq m4 h4 m6 h6 x0 x1 x2 x4 r l k (kernelRun0_A.sl.r c m2 h2 x0) (kernelRun0_A.sl.r_1 c m3 h3 x1) (number m2 h2 x0) (number m3 h3 x1)
  have D := deepest_eq c m2 h2 m3 h3 m4 h4 m6 h6 x0 x1 x2 x4 r l
  have f (k : Fin 8) := @face_eq m5 h5 x0 x1 x2 x3 x4 r l k
  exact canon_nine (F := Ideal) (r := r) (l := l) (G := logs x0 x1 x2 x3 x4 r l)
    (f 0 (kernelRun0_A.sl.v2480 c m2 h2 m3 h3 m4 h4 m6 h6 x0 x1 x2 x4) _ (e 0) D)
    (f 1 (kernelRun0_A.sl.v2489 c m2 h2 m3 h3 m4 h4 m6 h6 x0 x1 x2 x4) _ (e 1) D)
    (f 2 (kernelRun0_A.sl.v2498 c m2 h2 m3 h3 m4 h4 m6 h6 x0 x1 x2 x4) _ (e 2) D)
    (f 3 (kernelRun0_A.sl.v2507 c m2 h2 m3 h3 m4 h4 m6 h6 x0 x1 x2 x4) _ (e 3) D)
    (f 4 (kernelRun0_A.sl.v2516 c m2 h2 m3 h3 m4 h4 m6 h6 x0 x1 x2 x4) _ (e 4) D)
    (f 5 (kernelRun0_A.sl.v2525 c m2 h2 m3 h3 m4 h4 m6 h6 x0 x1 x2 x4) _ (e 5) D)
    (f 6 (kernelRun0_A.sl.v2534 c m2 h2 m3 h3 m4 h4 m6 h6 x0 x1 x2 x4) _ (e 6) D)
    (f 7 (kernelRun0_A.sl.v2543 c m2 h2 m3 h3 m4 h4 m6 h6 x0 x1 x2 x4) _ (e 7) D)
    (background_eq c m2 h2 m3 h3 m4 h4 m6 h6 x0 x1 x2 x3 x4 r l) k

end Cert.KernelIdeal.Block
-- ==== Proof.Total.lean ====
/- What a block's sixteen grid points leave in the output: each pixel's share of the samples. -/
module

public import proofs.«01_k».proof.Proof.Fill

@[expose] public section

set_option maxHeartbeats 1000000

noncomputable section

namespace Cert.KernelIdeal.Block

open Idealize.ShloMosaic
open Idealize.ShloMosaic.ValueIdx
open Cert.KernelIdeal Cert.KernelIdeal.Gen Cert.Sampler

/-- The mark of a category is whether the drawn category is that one. -/
theorem mark_eq (c k : Word) : mark (F := Ideal) c k = hit c k := by
  show (((BitVec.setWidth 32 (IntOp.cmpi .eq c k)).toInt : ℝ) : EReal) = (((IntOp.cmpi .eq c k).toNat : ℝ) : EReal)
  rcases (by decide : ∀ b : BitVec 1, b = 0#1 ∨ b = 1#1) (IntOp.cmpi .eq c k) with e | e <;> rw [e] <;> norm_num

/-- The literal the last sample multiplies by is a sixteenth. -/
theorem sixteenth : (lit 0x3D800000#32 : Ideal .f32) = ((1 / 16 : ℝ) : EReal) := by
  show Ideal.ofBits .f32 0x3D800000#32 = _
  simp [Ideal.ofBits, Ideal.ieee, -EReal.coe_mul]; norm_num

variable (m : (ℓ : Loc nD τ sig) → Buf (Elt Ideal) ℓ) (c : Dev nD)

/-- The grid point of sample `s` of block `q`. -/
theorem at_lt (q : Fin 14) {s : ℕ} (hs : s < 16) : 16 * q.val + s < cfg0.N :=
  Nat.lt_of_lt_of_eq (show 16 * q.val + s < 224 by omega) N_0.symm

theorem coord_block (q : Fin 14) {s : ℕ} (hs : s < 16) : (grid0.coords ⟨16 * q.val + s, at_lt q hs⟩ 0).val = q.val := by
  rw [Pipeline.Grid.coords_val _ 0 (by decide : grid0.stride 0 = 16) rfl]
  show (16 * q.val + s) / 16 % 14 = q.val
  omega

theorem coord_sample (q : Fin 14) {s : ℕ} (hs : s < 16) : (grid0.coords ⟨16 * q.val + s, at_lt q hs⟩ 1).val = s := by
  rw [Pipeline.Grid.coords_val _ 1 (by decide : grid0.stride 1 = 1) rfl]
  show (16 * q.val + s) / 1 % 16 = s
  omega

/-- The scratch stays as the block's first sample filled it. -/
theorem held_run (q : Fin 14) : ∀ (s : ℕ) (hs : s < 16), held m c (16 * q.val + s) (at_lt q hs) = held m c (16 * q.val) (at_lt q (s := 0) (by omega))
  | 0, _ => rfl
  | s + 1, hs => by
    refine Eq.trans ?_ (held_run q s (by omega))
    by_cases h : s = 14
    · exact held_C m c ⟨16 * q.val + (s + 1), at_lt q hs⟩ (by show ¬(16 * q.val + (s + 1)) % 16 = 0; omega)
        (by show ¬(1 ≤ (16 * q.val + (s + 1)) % 16 ∧ (16 * q.val + (s + 1)) % 16 ≤ 14); omega) (by show (16 * q.val + (s + 1)) % 16 = 15; omega)
    · exact held_B m c ⟨16 * q.val + (s + 1), at_lt q hs⟩ (by show ¬(16 * q.val + (s + 1)) % 16 = 0; omega)
        (by show (1 ≤ (16 * q.val + (s + 1)) % 16 ∧ (16 * q.val + (s + 1)) % 16 ≤ 14); omega) (by show ¬(16 * q.val + (s + 1)) % 16 = 15; omega)

/-- The category that a block's sample draws for a pixel. -/
abbrev pick (q : Fin 14) (r : Fin 112) (l : Fin 128) (s : ℕ) : Word :=
  choice (fun n => held m c (16 * q.val) (at_lt q (s := 0) (by omega)) (ix3 n r l)) (counter q.val s r.val l.val)

theorem drawn_eq (q : Fin 14) (r : Fin 112) (l : Fin 128) {s : ℕ} (hs : s < 16) :
    drawn m c ⟨16 * q.val + s, at_lt q hs⟩ r l = pick m c q r l s := by
  unfold drawn
  rw [coord_block q hs, coord_sample q hs]
  exact congrArg (fun h : Vec Ideal S9x112x128 .f32 => choice (F := Ideal) (fun n => h (ix3 n r l)) _) (held_run m c q s hs)

/-- Before the last sample the output counts the samples that drew a category. -/
theorem out_run (q : Fin 14) (k : Fin 9) (r : Fin 112) (l : Fin 128) : ∀ (s : ℕ) (hs : s < 15),
    out m c (16 * q.val + s) (at_lt q (by omega)) (ix3 k r l) = ∑ j ∈ Finset.range (s + 1), hit (pick m c q r l j) (BitVec.ofNat 32 k.val)
  | 0, _ => by
    refine (out_A m c ⟨16 * q.val + 0, at_lt q (by omega)⟩ (by show (16 * q.val + 0) % 16 = 0; omega)
      (by show ¬(1 ≤ (16 * q.val + 0) % 16 ∧ (16 * q.val + 0) % 16 ≤ 14); omega) (by show ¬(16 * q.val + 0) % 16 = 15; omega) k r l).trans ?_
    rw [drawn_eq m c q r l (by omega), mark_eq, Finset.sum_range_one]
  | s + 1, hs => by
    refine (out_B m c ⟨16 * q.val + (s + 1), at_lt q (by omega)⟩ (by show ¬(16 * q.val + (s + 1)) % 16 = 0; omega)
      (by show (1 ≤ (16 * q.val + (s + 1)) % 16 ∧ (16 * q.val + (s + 1)) % 16 ≤ 14); omega) (by show ¬(16 * q.val + (s + 1)) % 16 = 15; omega) k r l).trans ?_
    rw [drawn_eq m c q r l (by omega), mark_eq, Finset.sum_range_succ _ (s + 1)]
    exact congrArg (· + hit _ _) (out_run q k r l s (by omega))

/-- After the last sample the output holds the share of the samples that drew a category. -/
theorem out_last (q : Fin 14) (k : Fin 9) (r : Fin 112) (l : Fin 128) :
    out m c (16 * q.val + 15) (at_lt q (by omega)) (ix3 k r l)
      = (∑ j ∈ Finset.range 16, hit (pick m c q r l j) (BitVec.ofNat 32 k.val)) * ((1 / 16 : ℝ) : EReal) := by
  refine (out_C m c ⟨16 * q.val + 15, at_lt q (by omega)⟩ (by show ¬(16 * q.val + 15) % 16 = 0; omega)
      (by show ¬(1 ≤ (16 * q.val + 15) % 16 ∧ (16 * q.val + 15) % 16 ≤ 14); omega) (by show (16 * q.val + 15) % 16 = 15; omega) k r l).trans ?_
  rw [drawn_eq m c q r l (by omega), mark_eq, sixteenth, Finset.sum_range_succ _ 15]
  exact congrArg (fun x => (x + hit _ _) * ((1 / 16 : ℝ) : EReal)) (out_run m c q k r l 14 (by omega))

/-- A pixel of a block counts on as a pixel of an image: the counters agree. -/
theorem counter_base (q s r l a R L : ℕ) (h : (q * 112 + r) * 128 + l = 50176 * a + 224 * R + L) : counter q s r l = base s a R L := by
  unfold counter base
  congr 1
  omega

/-- The log-weights of a block's pixel, from the blocks of the inputs at the block's first sample. -/
abbrev blockLogs (q : Fin 14) (r : Fin 112) (l : Fin 128) : Fin 9 → Ideal .f32 :=
  logs (iblk m c 0 ⟨16 * q.val, at_lt q (s := 0) (by omega)⟩) (iblk m c 1 ⟨16 * q.val, at_lt q (s := 0) (by omega)⟩)
    (iblk m c 2 ⟨16 * q.val, at_lt q (s := 0) (by omega)⟩) (iblk m c 3 ⟨16 * q.val, at_lt q (s := 0) (by omega)⟩)
    (iblk m c 4 ⟨16 * q.val, at_lt q (s := 0) (by omega)⟩) r l

theorem held_first (q : Fin 14) (r : Fin 112) (l : Fin 128) :
    (fun n => held m c (16 * q.val) (at_lt q (s := 0) (by omega)) (ix3 n r l)) = blockLogs m c q r l := by
  funext n
  have e := held_A m c ⟨16 * q.val, at_lt q (s := 0) (by omega)⟩ (by show (16 * q.val) % 16 = 0; omega)
      (by show ¬(1 ≤ (16 * q.val) % 16 ∧ (16 * q.val) % 16 ≤ 14); omega) (by show ¬(16 * q.val) % 16 = 15; omega)
  exact (congrFun e (ix3 n r l)).trans (filled ..)

/-- What a block's output ends holding at the pixel at row `R` and column `L` of image `a`. -/
theorem out_share (q : Fin 14) (k : Fin 9) (r : Fin 112) (l : Fin 128) (a R L : ℕ)
    (h : (q.val * 112 + r.val) * 128 + l.val = 50176 * a + 224 * R + L) :
    out m c (16 * q.val + 15) (at_lt q (by omega)) (ix3 k r l) = share (blockLogs m c q r l) a R L (BitVec.ofNat 32 k.val) := by
  rw [out_last, share, ← held_first]
  refine congrArg (· * ((1 / 16 : ℝ) : EReal)) ((Finset.sum_range _).trans (Finset.sum_congr rfl fun s _ => ?_))
  rw [pick, counter_base q.val s.val r.val l.val a R L h]

end Cert.KernelIdeal.Block
-- ==== Proof.Array.lean ====
/- The array the kernel's grid leaves, and the result read off it pixel by pixel. -/
module

public import proofs.«01_k».proof.Proof.Total
public import proofs.«01_k».proof.Proof.Gen.KernelIdeal.Run
public import Idealize.ShloMosaic.Lib.Pipeline.ValueKit

@[expose] public section

set_option maxHeartbeats 1000000

noncomputable section

namespace Cert.KernelIdeal.Block

open Idealize.ShloMosaic hiding ix1 ix2 ix3 ix4 ix5
open Idealize.ShloMosaic.TcCoe Idealize.ShloMosaic.StableHlo
open Idealize.ShloMosaic.ValueIdx
open Cert.KernelIdeal Cert.KernelIdeal.Gen Cert.Sampler

variable (m : (ℓ : Loc nD τ sig) → Buf (Elt Ideal) ℓ) (c : Dev nD)

/-- The place of the output's block in its array at each grid point. -/
theorem place_out : ∀ t : Fin cfg0.N, win0_5.index t = ![0, t.val / 16, 0] :=
  (by decide +kernel : ∀ t : Fin grid0.N, _)

/-- The contents of the output's array: each block as its last sample leaves it. -/
def total : Vec Ideal S9x1568x128 .f32 := fun i =>
  out m c (16 * ((i 1).val / 112) + 15) (at_lt ⟨(i 1).val / 112, by have : (i 1).val < 1568 := (i 1).isLt; omega⟩ (by omega))
    (ix3 (i 0) ⟨(i 1).val % 112, Nat.mod_lt _ (by decide)⟩ (i 2))

theorem out_congr {n n' : ℕ} (e : n = n') (hn : n < cfg0.N) (hn' : n' < cfg0.N) : out m c n hn = out m c n' hn' := by subst e; rfl

/-- The array ends with those contents. -/
theorem array_eq : Value.reg_main_v9 m c = total m c := by
  unfold Value.reg_main_v9
  refine (dats m 0 c).arrAt_eq_of_covers 5 _ (by decide +kernel) fun t hf y => ?_
  blk_simp
  rw [after0_5]
  have hm : t.val % 16 = 15 := (flush0_5 t).mp hf
  have e := place_out t
  have hy : (y 1).val < 112 := (y 1).isLt
  have e0 : ((((cfg0.win 5).blk t).view.emb y) 0).val = (y 0).val := by
    show win0_5.index t (0 : Fin 3) * 9 + 1 * (y 0).val = _
    rw [e]; show 0 * 9 + 1 * (y 0).val = _; omega
  have e1 : ((((cfg0.win 5).blk t).view.emb y) 1).val = t.val / 16 * 112 + (y 1).val := by
    show win0_5.index t (1 : Fin 3) * 112 + 1 * (y 1).val = _
    rw [e]; show t.val / 16 * 112 + 1 * (y 1).val = _; omega
  have e2 : ((((cfg0.win 5).blk t).view.emb y) 2).val = (y 2).val := by
    show win0_5.index t (2 : Fin 3) * 128 + 1 * (y 2).val = _
    rw [e]; show 0 * 128 + 1 * (y 2).val = _; omega
  unfold total
  rw [out_congr m c (show 16 * (((((cfg0.win 5).blk t).view.emb y) 1).val / 112) + 15 = t.val by rw [e1]; omega) _ t.isLt]
  refine congrArg (outsAt0 m c t.val t.isLt).1 (funext fun a => Fin.ext ?_)
  match a with
  | ⟨0, _⟩ => exact e0.symm
  | ⟨1, _⟩ => show (y 1).val = ((((cfg0.win 5).blk t).view.emb y) 1).val % 112; rw [e1]; omega
  | ⟨2, _⟩ => exact e2.symm

/-- The array's place of a pixel: its row of lanes. -/
def lanes (a : Fin 4) (r l : Fin 224) : Fin 1568 := ⟨(50176 * a.val + 224 * r.val + l.val) / 128, by omega⟩
/-- The array's place of a pixel: its lane. -/
def lane (a : Fin 4) (r l : Fin 224) : Fin 128 := ⟨(50176 * a.val + 224 * r.val + l.val) % 128, by omega⟩
/-- A pixel's number. -/
def pixel (a : Fin 4) (r l : Fin 224) : Fin 200704 := ⟨50176 * a.val + 224 * r.val + l.val, by omega⟩

/-- The result read at a pixel and category is the array read at the pixel's place. -/
theorem unfold_out (x : Vec Ideal S9x1568x128 .f32) (a : Fin 4) (r l : Fin 224) (k : Fin 9) :
    shapeCast S4x224x224x9 (transpose S200704x9 [1, 0] (shapeCast S9x200704 x shapeCasts_S9x1568x128_S9x200704) transposes_S9x200704_S200704x9_1_0)
      shapeCasts_S200704x9_S4x224x224x9 (ix4 a r l k) = x (ix3 k (lanes a r l) (lane a r l)) := by
  rw [shapeCast_apply _ _ _ (ix2 (pixel a r l) k) (by
      rw [Shape.rowMajor_val_two, Shape.rowMajor_val_four]
      show (50176 * a.val + 224 * r.val + l.val) * 9 + k.val = ((a.val * 224 + r.val) * 224 + l.val) * 9 + k.val
      omega),
    transpose_apply _ _ _ _ (ix2 k (pixel a r l)) (by intro b; match b with | ⟨0, _⟩ => rfl | ⟨1, _⟩ => rfl),
    shapeCast_apply _ _ _ (ix3 k (lanes a r l) (lane a r l)) (by
      rw [Shape.rowMajor_val_two, Shape.rowMajor_val_three]
      show (k.val * 1568 + (50176 * a.val + 224 * r.val + l.val) / 128) * 128 + (50176 * a.val + 224 * r.val + l.val) % 128
        = k.val * 200704 + (50176 * a.val + 224 * r.val + l.val)
      omega)]

/-- An input of eight faces as the kernel's grid takes it. -/
abbrev folded (x : Vec Ideal S4x224x224x8 .f32) : Vec Ideal S8x1568x128 .f32 :=
  shapeCast S8x1568x128 (transpose S8x200704 [1, 0] (shapeCast S200704x8 x shapeCasts_S4x224x224x8_S200704x8) transposes_S200704x8_S8x200704_1_0)
    shapeCasts_S8x200704_S8x1568x128

/-- An input read at a pixel's place is the input at the pixel. -/
theorem fold_in (x : Vec Ideal S4x224x224x8 .f32) (a : Fin 4) (r l : Fin 224) (k : Fin 8) :
    folded x (ix3 k (lanes a r l) (lane a r l)) = x (ix4 a r l k) := by
  unfold folded
  rw [shapeCast_apply _ _ _ (ix2 k (pixel a r l)) (by
      rw [Shape.rowMajor_val_two, Shape.rowMajor_val_three]
      show k.val * 200704 + (50176 * a.val + 224 * r.val + l.val)
        = (k.val * 1568 + (50176 * a.val + 224 * r.val + l.val) / 128) * 128 + (50176 * a.val + 224 * r.val + l.val) % 128
      omega),
    transpose_apply _ _ _ _ (ix2 (pixel a r l) k) (by intro b; match b with | ⟨0, _⟩ => rfl | ⟨1, _⟩ => rfl),
    shapeCast_apply _ _ _ (ix4 a r l k) (by
      rw [Shape.rowMajor_val_two, Shape.rowMajor_val_four]
      show ((a.val * 224 + r.val) * 224 + l.val) * 8 + k.val = (50176 * a.val + 224 * r.val + l.val) * 8 + k.val
      omega)]

/-- The first input of eight faces as the grid finds it. -/
theorem found_v2 : V m c main_v2 = folded (m ((c.tc : Thread nD τ).loc main_arg0)) := by
  show after (List.flatten [hostOps0]) (fun b => m (c, b)) (Proc.devRef .tc main_v2) = _
  simp only [Gen.hostOps0, List.flatten_cons, List.flatten_nil, List.append_nil, List.cons_append, List.nil_append]
  after_results <;> rfl

/-- The second input of eight faces as the grid finds it. -/
theorem found_v5 : V m c main_v5 = folded (m ((c.tc : Thread nD τ).loc main_arg3)) := by
  show after (List.flatten [hostOps0]) (fun b => m (c, b)) (Proc.devRef .tc main_v5) = _
  simp only [Gen.hostOps0, List.flatten_cons, List.flatten_nil, List.append_nil, List.cons_append, List.nil_append]
  after_results <;> rfl

/-- The third input of eight faces as the grid finds it. -/
theorem found_v8 : V m c main_v8 = folded (m ((c.tc : Thread nD τ).loc main_arg4)) := by
  show after (List.flatten [hostOps0]) (fun b => m (c, b)) (Proc.devRef .tc main_v8) = _
  simp only [Gen.hostOps0, List.flatten_cons, List.flatten_nil, List.append_nil, List.cons_append, List.nil_append]
  after_results <;> rfl

/-- The place of each input's block in its array at a grid point. -/
theorem place_in : ∀ t : Fin cfg0.N, win0_2.index t = ![0, t.val / 16, 0] ∧ win0_3.index t = ![0, t.val / 16, 0] ∧ win0_4.index t = ![0, t.val / 16, 0]
    ∧ win0_0.index t = ![0] ∧ win0_1.index t = ![0] :=
  (by decide +kernel : ∀ t : Fin grid0.N, _)

/-- The block of images' pixels that holds a pixel. -/
def blockOf (a : Fin 4) (r l : Fin 224) : Fin 14 := ⟨(lanes a r l).val / 112, by omega⟩
/-- A pixel's row in its block. -/
def rowOf (a : Fin 4) (r l : Fin 224) : Fin 112 := ⟨(lanes a r l).val % 112, Nat.mod_lt _ (by decide)⟩

/-- The first grid point of a pixel's block. -/
abbrev firstOf (a : Fin 4) (r l : Fin 224) : Fin cfg0.N := ⟨16 * (blockOf a r l).val, at_lt (blockOf a r l) (s := 0) (by omega)⟩

/-- A face's place in the arrays, from its place in the block. -/
theorem place_eq (i : Fin 3 → ℕ) (a : Fin 4) (r l : Fin 224) (k : Fin 8) (e : i = ![0, (firstOf a r l).val / 16, 0]) (j : S8x1568x128.Idx)
    (j0 : (j 0).val = i 0 * 8 + 1 * k.val) (j1 : (j 1).val = i 1 * 112 + 1 * (rowOf a r l).val) (j2 : (j 2).val = i 2 * 128 + 1 * (lane a r l).val) :
    j = ix3 k (lanes a r l) (lane a r l) := by
  subst e
  have h1 : (j 1).val = 16 * ((lanes a r l).val / 112) / 16 * 112 + 1 * ((lanes a r l).val % 112) := j1
  refine funext fun b => Fin.ext ?_
  match b with
  | ⟨0, _⟩ => exact j0.trans (by show 0 * 8 + 1 * k.val = k.val; omega)
  | ⟨1, _⟩ => show (j 1).val = (lanes a r l).val; omega
  | ⟨2, _⟩ => exact j2.trans (by show 0 * 128 + 1 * (lane a r l).val = (lane a r l).val; omega)

/-- The first input of eight faces, as its block holds it. -/
theorem block_two (a : Fin 4) (r l : Fin 224) (k : Fin 8) :
    iblk m c 2 (firstOf a r l) (ix3 k (rowOf a r l) (lane a r l)) = (m ((c.tc : Thread nD τ).loc main_arg0) : Vec Ideal S4x224x224x8 .f32) (ix4 a r l k) := by
  refine Eq.trans ?_ (fold_in _ a r l k)
  rw [← found_v2]
  exact congrArg (V m c main_v2) (place_eq _ a r l k (place_in _).1 _ rfl rfl rfl)

/-- The second input of eight faces, as its block holds it. -/
theorem block_three (a : Fin 4) (r l : Fin 224) (k : Fin 8) :
    iblk m c 3 (firstOf a r l) (ix3 k (rowOf a r l) (lane a r l)) = (m ((c.tc : Thread nD τ).loc main_arg3) : Vec Ideal S4x224x224x8 .f32) (ix4 a r l k) := by
  refine Eq.trans ?_ (fold_in _ a r l k)
  rw [← found_v5]
  exact congrArg (V m c main_v5) (place_eq _ a r l k (place_in _).2.1 _ rfl rfl rfl)

/-- The third input of eight faces, as its block holds it. -/
theorem block_four (a : Fin 4) (r l : Fin 224) (k : Fin 8) :
    iblk m c 4 (firstOf a r l) (ix3 k (rowOf a r l) (lane a r l)) = (m ((c.tc : Thread nD τ).loc main_arg4) : Vec Ideal S4x224x224x8 .f32) (ix4 a r l k) := by
  refine Eq.trans ?_ (fold_in _ a r l k)
  rw [← found_v8]
  exact congrArg (V m c main_v8) (place_eq _ a r l k (place_in _).2.2.1 _ rfl rfl rfl)

/-- The far plane, as its block holds it. -/
theorem block_zero (t : Fin cfg0.N) : iblk m c 0 t (ix1 0) = (m ((c.tc : Thread nD τ).loc main_arg1) : Vec Ideal S1 .f32) (ix1 0) := by
  rw [← V_main_arg1 m c]
  refine congrArg (V m c main_arg1) (funext fun b => Fin.ext ?_)
  match b with
  | ⟨0, _⟩ => rfl

/-- The near plane, as its block holds it. -/
theorem block_one (t : Fin cfg0.N) : iblk m c 1 t (ix1 0) = (m ((c.tc : Thread nD τ).loc main_arg2) : Vec Ideal S1 .f32) (ix1 0) := by
  rw [← V_main_arg2 m c]
  refine congrArg (V m c main_arg2) (funext fun b => Fin.ext ?_)
  match b with
  | ⟨0, _⟩ => rfl

/-- The log-weights of a pixel, from the arguments. -/
abbrev pixelLogs (a : Fin 4) (r l : Fin 224) : Fin 9 → Ideal .f32 :=
  weights ((m ((c.tc : Thread nD τ).loc main_arg1) : Vec Ideal S1 .f32) (ix1 0)) ((m ((c.tc : Thread nD τ).loc main_arg2) : Vec Ideal S1 .f32) (ix1 0))
    (fun k => (m ((c.tc : Thread nD τ).loc main_arg0) : Vec Ideal S4x224x224x8 .f32) (ix4 a r l k))
    (fun k => (m ((c.tc : Thread nD τ).loc main_arg3) : Vec Ideal S4x224x224x8 .f32) (ix4 a r l k))
    (fun k => (m ((c.tc : Thread nD τ).loc main_arg4) : Vec Ideal S4x224x224x8 .f32) (ix4 a r l k))

/-- A block computes the log-weights of its pixels from the arguments. -/
theorem logs_eq (a : Fin 4) (r l : Fin 224) : blockLogs m c (blockOf a r l) (rowOf a r l) (lane a r l) = pixelLogs m c a r l := by
  unfold blockLogs logs pixelLogs
  congr 1
  · exact block_zero m c _
  · exact block_one m c _
  · exact funext fun k => block_two m c a r l k
  · exact funext fun k => block_three m c a r l k
  · exact funext fun k => block_four m c a r l k

/-- The kernel's result at a pixel and category is the category's share of the samples. -/
theorem result_at (a : Fin 4) (r l : Fin 224) (k : Fin 9) :
    shapeCast S4x224x224x9 (transpose S200704x9 [1, 0] (shapeCast S9x200704 (Value.reg_main_v9 m c : Vec Ideal S9x1568x128 .f32) shapeCasts_S9x1568x128_S9x200704)
      transposes_S9x200704_S200704x9_1_0) shapeCasts_S200704x9_S4x224x224x9 (ix4 a r l k)
      = share (pixelLogs m c a r l) a.val r.val l.val (BitVec.ofNat 32 k.val) := by
  refine (unfold_out _ a r l k).trans ?_
  rw [array_eq, ← logs_eq]
  refine out_share m c (blockOf a r l) k (rowOf a r l) (lane a r l) a.val r.val l.val ?_
  show ((50176 * a.val + 224 * r.val + l.val) / 128 / 112 * 112 + (50176 * a.val + 224 * r.val + l.val) / 128 % 112) * 128
    + (50176 * a.val + 224 * r.val + l.val) % 128 = _
  omega

end Cert.KernelIdeal.Block
-- ==== Proof.Line.lean ====
/- What a straight line of host operations leaves in memory, as one equation for each operation. A line whose every
   operation writes the next buffer in order and reads earlier ones ends in contents that each of its operations leaves
   as they are: so each result, at the end, is the operation of its operands at the end. -/
module

public import Idealize.ShloMosaic.Lib.StableHlo.RunHlo

@[expose] public section

noncomputable section

namespace Cert.HostLine

open Idealize.ShloMosaic Idealize.ShloMosaic.StableHlo Idealize.SL.Sem Idealize.ShloMosaic.TcCoe

variable {nD : Nat} {τ : Topo} {sig : RefSig} {Val : EltTy → Type} {Λ : Labels}

/-- The contents of a TensorCore's buffer. -/
abbrev at' (W : Valuation τ sig Val) (r : Ref sig .tc) : r.ty.Contents Val := W (Proc.devRef .tc r)

/-- The operation writes buffer number `n` alone, of the device's memory, from buffers with smaller numbers. -/
structure Writes (n : ℕ) (op : HloOp τ sig Val) : Prop where
  /-- The one buffer, and that what it gets depends on earlier buffers. -/
  one : ∃ y : Ref sig .tc, op.writes = {Proc.devRef .tc y} ∧ y.idx.val = n ∧
    ∀ V W : Valuation τ sig Val, (∀ r : Ref sig .tc, r.idx.val < n → at' V r = at' W r) →
      op.result V (Proc.devRef .tc y) = op.result W (Proc.devRef .tc y)
  /-- It touches a TensorCore's buffers. -/
  sub : op.bufs ⊆ tcRefs τ sig
  /-- It leaves nothing undetermined. -/
  fresh : op.fresh = ∅

/-- The operations write the buffers `n`, `n + 1`, … up to `n'`, in order. -/
inductive Ordered : ℕ → List (HloOp τ sig Val) → ℕ → Prop
  | nil (n : ℕ) : Ordered n [] n
  | cons {n n' : ℕ} {op : HloOp τ sig Val} {ops : List (HloOp τ sig Val)} (h : Writes n op) (t : Ordered (n + 1) ops n') :
    Ordered n (op :: ops) n'

/-- Two ordered lines, one after the other. -/
theorem Ordered.append {n k n' : ℕ} {a b : List (HloOp τ sig Val)} (h : Ordered n a k) (t : Ordered k b n') :
    Ordered n (a ++ b) n' := by
  induction h with
  | nil => exact t
  | cons h _ ih => exact .cons h (ih t)

/-- What every operation of an ordered line has. -/
theorem Ordered.forall {n n' : ℕ} {ops : List (HloOp τ sig Val)} (h : Ordered n ops n') :
    ∀ op ∈ ops, ∃ k, n ≤ k ∧ Writes k op := by
  induction h with
  | nil => exact fun _ h => nomatch h
  | cons h _ ih =>
    intro o ho
    rcases List.mem_cons.mp ho with rfl | ho
    · exact ⟨_, le_rfl, h⟩
    · obtain ⟨k, hk, w⟩ := ih o ho
      exact ⟨k, Nat.le_of_succ_le hk, w⟩

/-- A buffer before the line's first keeps its contents. -/
theorem Ordered.keeps {n n' : ℕ} {ops : List (HloOp τ sig Val)} (h : Ordered n ops n') (V : Valuation τ sig Val)
    (r : Ref sig .tc) (hr : r.idx.val < n) : at' (after ops V) r = at' V r :=
  after_of_forall_not_mem ops V fun op ho hm => by
    obtain ⟨k, hk, ⟨y, hw, hy, _⟩, _, _⟩ := h.forall op ho
    rw [hw, Finset.mem_singleton] at hm
    have e := Proc.devRef_injective _ hm
    subst e
    omega

/-- Every operation of an ordered line leaves the line's final contents as they are. -/
theorem Ordered.fixed {n n' : ℕ} {ops : List (HloOp τ sig Val)} (h : Ordered n ops n') :
    ∀ V : Valuation τ sig Val, ∀ op ∈ ops, op.result (after ops V) = after ops V := by
  induction h with
  | nil => exact fun _ _ h => nomatch h
  | @cons n n' op ops h t ih =>
    intro V o ho
    rcases List.mem_cons.mp ho with rfl | ho
    · obtain ⟨y, hw, hy, hc⟩ := h.one
      funext b
      by_cases hb : b ∈ o.writes
      · rw [hw, Finset.mem_singleton] at hb
        subst hb
        rw [hc (after (o :: ops) V) V fun r hr => (Ordered.cons h t).keeps V r hr]
        exact (t.keeps (o.result V) y (by omega)).symm
      · exact o.result_of_not_mem _ hb
    · rw [after_cons]; exact ih (op.result V) o ho

/-- `p` is an ordered line from buffer `n` to `n'`, and contents that its operations leave as they are satisfy `P`. -/
def Line (p : Prog (TpuEff nD τ sig Val Λ .tc) PUnit) (n n' : ℕ) (P : Valuation τ sig Val → Prop) : Prop :=
  ∃ ops, p = seq ops ∧ Ordered n ops n' ∧ ∀ W, (∀ op ∈ ops, op.result W = W) → P W

/-- The empty line. -/
theorem Line.nil {n : ℕ} : Line (nD := nD) (Λ := Λ) (pure ⟨⟩) n n (fun _ : Valuation τ sig Val => True) :=
  ⟨[], rfl, .nil n, fun _ _ => trivial⟩

/-- One operation, then a line. -/
theorem Line.cons {op : HloOp τ sig Val} {k : Prog (TpuEff nD τ sig Val Λ .tc) PUnit} {n n' : ℕ}
    {P Q : Valuation τ sig Val → Prop} (h : Writes n op) (e : ∀ W, op.result W = W → Q W) (t : Line k (n + 1) n' P) :
    Line ((hlo rfl op fun _ => .ret (⟨⟩ : PUnit)) >>= fun _ => k) n n' fun W => Q W ∧ P W := by
  obtain ⟨ops, rfl, ho, hp⟩ := t
  exact ⟨op :: ops, rfl, .cons h ho, fun W hW =>
    ⟨e W (hW op List.mem_cons_self), hp W fun o h => hW o (List.mem_cons_of_mem _ h)⟩⟩

/-- A line, then another: a call, then what follows it. -/
theorem Line.bind {p k : Prog (TpuEff nD τ sig Val Λ .tc) PUnit} {n l n' : ℕ} {P Q : Valuation τ sig Val → Prop}
    (h : Line p n l P) (t : Line k l n' Q) : Line (p >>= fun _ => k) n n' fun W => P W ∧ Q W := by
  obtain ⟨a, rfl, ha, hp⟩ := h
  obtain ⟨b, rfl, hb, hq⟩ := t
  exact ⟨a ++ b, (seq_append a b).symm, ha.append hb, fun W hW =>
    ⟨hp W fun o h => hW o (List.mem_append_left _ h), hq W fun o h => hW o (List.mem_append_right _ h)⟩⟩

/-- A line whose last operation nothing follows. -/
theorem Line.last {op : HloOp τ sig Val} {n n' : ℕ} {P : Valuation τ sig Val → Prop}
    (t : Line (nD := nD) (Λ := Λ) ((hlo rfl op fun _ => .ret (⟨⟩ : PUnit)) >>= fun _ => pure ⟨⟩) n n' P) :
    Line (nD := nD) (Λ := Λ) (hlo rfl op fun _ => .ret (⟨⟩ : PUnit)) n n' P := by
  rwa [bind_pure_unit] at t

section Kinds

variable {x a b c e y : Ref sig .tc} {k : Prog (TpuEff nD τ sig Val Λ .tc) PUnit} {n n' : ℕ}
  {P : Valuation τ sig Val → Prop}

/-- A constant, then a line. -/
theorem Line.nullary {v : y.ty.Contents Val} {hy} (t : Line k (n + 1) n' P) (iy : y.idx.val = n) :
    Line ((hlo rfl (StableHlo.nullary y v hy) fun _ => .ret (⟨⟩ : PUnit)) >>= fun _ => k) n n' fun W =>
      at' W y = v ∧ P W :=
  .cons ⟨⟨y, nullary_writes (τ := τ) y v hy, iy, fun V W _ => by rw [nullary_result', nullary_result']⟩,
    nullary_bufs_sub y v hy, rfl⟩ (fun W h => by
      rw [at', ← nullary_result' (τ := τ) v hy W]; exact (congrFun h _).symm) t

/-- An operation of one operand, then a line. -/
theorem Line.unary {f : x.ty.Contents Val → y.ty.Contents Val} {hx hy} (t : Line k (n + 1) n' P) (ix : x.idx.val < n) (iy : y.idx.val = n) :
    Line ((hlo rfl (StableHlo.unary x y f hx hy) fun _ => .ret (⟨⟩ : PUnit)) >>= fun _ => k) n n' fun W =>
      at' W y = f (at' W x) ∧ P W :=
  .cons ⟨⟨y, unary_writes (τ := τ) x y f hx hy, iy, fun V W h => by
      rw [unary_result', unary_result']; exact congrArg f (h x ix)⟩,
    unary_bufs_sub x y f hx hy, rfl⟩ (fun W h => by
      rw [at', ← unary_result' (τ := τ) f hx hy W]; exact (congrFun h _).symm) t

/-- A reshape, then a line. -/
theorem Line.reshape {he hn hx hy} (t : Line k (n + 1) n' P) (ix : x.idx.val < n) (iy : y.idx.val = n) :
    Line ((hlo rfl (StableHlo.reshape (Val := Val) x y he hn hx hy) fun _ => .ret (⟨⟩ : PUnit)) >>= fun _ => k) n n' fun W =>
      (at' W y = fun i => he ▸ shapeCast y.ty.shape (at' W x) hn i) ∧ P W :=
  .cons ⟨⟨y, reshape_writes (τ := τ) x y he hn hx hy, iy, fun V W h => by
      rw [reshape_result', reshape_result']
      exact congrArg (fun u : x.ty.Contents Val => (fun i => he ▸ shapeCast y.ty.shape u hn i : y.ty.Contents Val)) (h x ix)⟩,
    reshape_bufs_sub x y he hn hx hy, rfl⟩ (fun W h => by
      rw [at', ← reshape_result' (τ := τ) he hn hx hy W]; exact (congrFun h _).symm) t

/-- An operation of two operands, then a line. -/
theorem Line.binary {f : a.ty.Contents Val → b.ty.Contents Val → y.ty.Contents Val} {ha hb hy}
    (t : Line k (n + 1) n' P) (ia : a.idx.val < n) (ib : b.idx.val < n) (iy : y.idx.val = n) :
    Line ((hlo rfl (StableHlo.binary a b y f ha hb hy) fun _ => .ret (⟨⟩ : PUnit)) >>= fun _ => k) n n' fun W =>
      at' W y = f (at' W a) (at' W b) ∧ P W :=
  .cons ⟨⟨y, binary_writes (τ := τ) a b y f ha hb hy, iy, fun V W h => by
      rw [binary_result', binary_result']; exact congrArg₂ f (h a ia) (h b ib)⟩,
    binary_bufs_sub a b y f ha hb hy, rfl⟩ (fun W h => by
      rw [at', ← binary_result' (τ := τ) f ha hb hy W]; exact (congrFun h _).symm) t

/-- An operation of three operands, then a line. -/
theorem Line.ternary {f : c.ty.Contents Val → a.ty.Contents Val → b.ty.Contents Val → y.ty.Contents Val} {hc ha hb hy}
    (t : Line k (n + 1) n' P) (ic : c.idx.val < n) (ia : a.idx.val < n) (ib : b.idx.val < n) (iy : y.idx.val = n) :
    Line ((hlo rfl (StableHlo.ternary c a b y f hc ha hb hy) fun _ => .ret (⟨⟩ : PUnit)) >>= fun _ => k) n n' fun W =>
      at' W y = f (at' W c) (at' W a) (at' W b) ∧ P W :=
  .cons ⟨⟨y, ternary_writes (τ := τ) (c := c) (a := a) (b := b) (y := y) f hc ha hb hy, iy, fun V W h => by
      rw [ternary_result', ternary_result', show V (Proc.devRef .tc c) = W (Proc.devRef .tc c) from h c ic]
      exact congrArg₂ (f _) (h a ia) (h b ib)⟩,
    ternary_bufs_sub (c := c) (a := a) (b := b) (y := y) f hc ha hb hy, rfl⟩ (fun W h => by
      rw [at', ← ternary_result' (τ := τ) f hc ha hb hy W]; exact (congrFun h _).symm) t

/-- An operation of four operands, then a line. -/
theorem Line.quaternary
    {f : a.ty.Contents Val → b.ty.Contents Val → c.ty.Contents Val → e.ty.Contents Val → y.ty.Contents Val} {ha hb hc he hy}
    (t : Line k (n + 1) n' P) (ia : a.idx.val < n) (ib : b.idx.val < n) (ic : c.idx.val < n) (ie : e.idx.val < n) (iy : y.idx.val = n) :
    Line ((hlo rfl (StableHlo.quaternary a b c e y f ha hb hc he hy) fun _ => .ret (⟨⟩ : PUnit)) >>= fun _ => k) n n'
      fun W => at' W y = f (at' W a) (at' W b) (at' W c) (at' W e) ∧ P W :=
  .cons ⟨⟨y, quaternary_writes (τ := τ) a b c e y f ha hb hc he hy, iy, fun V W h => by
      rw [quaternary_result', quaternary_result', show V (Proc.devRef .tc a) = W (Proc.devRef .tc a) from h a ia,
        show V (Proc.devRef .tc b) = W (Proc.devRef .tc b) from h b ib]
      exact congrArg₂ (f _ _) (h c ic) (h e ie)⟩,
    quaternary_bufs_sub a b c e y f ha hb hc he hy, rfl⟩ (fun W h => by
      rw [at', ← quaternary_result' (τ := τ) f ha hb hc he hy W]; exact (congrFun h _).symm) t

end Kinds

section TypedKinds

variable {Tx Ta Tb Tc Te Ty : BufTy} {x : TRef sig Tx} {a : TRef sig Ta} {b : TRef sig Tb} {c : TRef sig Tc}
  {e : TRef sig Te} {y : TRef sig Ty} {k : Prog (TpuEff nD τ sig Val Λ .tc) PUnit} {n n' : ℕ} {P : Valuation τ sig Val → Prop}

/-- The contents of a buffer of a called function, at the value's type. -/
def val {T : BufTy} (W : Valuation τ sig Val) (x : TRef sig T) : T.Contents Val := x.ofBuf (at' W x.ref)

/-- An equation about a buffer as one about the value in it. -/
theorem val_eq {T : BufTy} {W : Valuation τ sig Val} {x : TRef sig T} {v : T.Contents Val} (h : at' W x.ref = x.toBuf v) :
    val W x = v := by
  rw [val, h, TRef.ofBuf_toBuf]

/-- Weaker equations of a line. -/
theorem Line.mono {p : Prog (TpuEff nD τ sig Val Λ .tc) PUnit} {Q : Valuation τ sig Val → Prop} (h : Line p n n' Q)
    (w : ∀ W, Q W → P W) : Line p n n' P := by
  obtain ⟨ops, hp, ho, hq⟩ := h
  exact ⟨ops, hp, ho, fun W hW => w W (hq W hW)⟩

/-- A constant of a called function, then a line. -/
theorem Line.nullaryT {v : Ty.Contents Val} (t : Line k (n + 1) n' P) (iy : y.ref.idx.val = n) :
    Line ((hlo rfl (TRef.nullary y v) fun _ => .ret (⟨⟩ : PUnit)) >>= fun _ => k) n n' fun W => val W y = v ∧ P W :=
  (Line.nullary t iy).mono fun _ h => ⟨val_eq h.1, h.2⟩

/-- An operation of one operand of a called function, then a line. -/
theorem Line.unaryT {f : Tx.Contents Val → Ty.Contents Val} (t : Line k (n + 1) n' P) (ix : x.ref.idx.val < n)
    (iy : y.ref.idx.val = n) :
    Line ((hlo rfl (TRef.unary x y f) fun _ => .ret (⟨⟩ : PUnit)) >>= fun _ => k) n n' fun W =>
      val W y = f (val W x) ∧ P W :=
  (Line.unary t ix iy).mono fun _ h => ⟨val_eq h.1, h.2⟩

/-- A reshape of a called function, then a line. -/
theorem Line.reshapeT {he hn} (t : Line k (n + 1) n' P) (ix : x.ref.idx.val < n) (iy : y.ref.idx.val = n) :
    Line ((hlo rfl (TRef.reshape (Val := Val) x y he hn) fun _ => .ret (⟨⟩ : PUnit)) >>= fun _ => k) n n' fun W =>
      (val W y = fun i => he ▸ shapeCast Ty.shape (val W x) hn i) ∧ P W := by
  obtain ⟨x, rfl, _, _⟩ := x
  obtain ⟨y, rfl, _, _⟩ := y
  exact Line.reshape t ix iy

/-- An operation of two operands of a called function, then a line. -/
theorem Line.binaryT {f : Ta.Contents Val → Tb.Contents Val → Ty.Contents Val} (t : Line k (n + 1) n' P)
    (ia : a.ref.idx.val < n) (ib : b.ref.idx.val < n) (iy : y.ref.idx.val = n) :
    Line ((hlo rfl (TRef.binary a b y f) fun _ => .ret (⟨⟩ : PUnit)) >>= fun _ => k) n n' fun W =>
      val W y = f (val W a) (val W b) ∧ P W :=
  (Line.binary t ia ib iy).mono fun _ h => ⟨val_eq h.1, h.2⟩

/-- An operation of three operands of a called function, then a line. -/
theorem Line.ternaryT {f : Tc.Contents Val → Ta.Contents Val → Tb.Contents Val → Ty.Contents Val} (t : Line k (n + 1) n' P)
    (ic : c.ref.idx.val < n) (ia : a.ref.idx.val < n) (ib : b.ref.idx.val < n) (iy : y.ref.idx.val = n) :
    Line ((hlo rfl (TRef.ternary c a b y f) fun _ => .ret (⟨⟩ : PUnit)) >>= fun _ => k) n n' fun W =>
      val W y = f (val W c) (val W a) (val W b) ∧ P W :=
  (Line.ternary t ic ia ib iy).mono fun _ h => ⟨val_eq h.1, h.2⟩

/-- An operation of four operands of a called function, then a line. -/
theorem Line.quaternaryT {f : Ta.Contents Val → Tb.Contents Val → Tc.Contents Val → Te.Contents Val → Ty.Contents Val}
    (t : Line k (n + 1) n' P) (ia : a.ref.idx.val < n) (ib : b.ref.idx.val < n) (ic : c.ref.idx.val < n)
    (ie : e.ref.idx.val < n) (iy : y.ref.idx.val = n) :
    Line ((hlo rfl (TRef.quaternary a b c e y f) fun _ => .ret (⟨⟩ : PUnit)) >>= fun _ => k) n n' fun W =>
      val W y = f (val W a) (val W b) (val W c) (val W e) ∧ P W :=
  (Line.quaternary t ia ib ic ie iy).mono fun _ h => ⟨val_eq h.1, h.2⟩

end TypedKinds

/-- A program that is an ordered line on every device runs to contents that satisfy the line's equations and hold the
    launch contents before the line's first buffer. -/
theorem Line.run {n n' : ℕ} {P : Valuation τ sig Val → Prop} (defs : Defs nD τ sig Val Λ)
    (main : Dev nD → Prog (TpuEff nD τ sig Val Λ .tc) PUnit) (h : ∀ d, Line (main d) n n' P)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ W : Valuation τ sig Val,
      (∀ b : Ref sig .tc, r.2.mem ((d.tc : Thread nD τ).loc b) = at' W b) ∧ P W ∧
      ∀ b : Ref sig .tc, b.idx.val < n → at' W b = m ((d.tc : Thread nD τ).loc b) := by
  choose ops hmain ho hp using h
  refine θ_run_mono (run_seq hR hC defs main ops hmain (fun d => List.forall_iff_forall_mem.mpr fun op hop => ?_) m ρ
    fun d op hop => ?_) fun r hr d => ⟨after (ops d) (launchContents m d), fun b => hr d b,
      hp d _ ((ho d).fixed _), fun b hb => (ho d).keeps _ b hb⟩
  · obtain ⟨_, _, w⟩ := (ho d).forall op hop
    exact w.sub
  · obtain ⟨_, _, w⟩ := (ho d).forall op hop
    exact w.fresh

end Cert.HostLine
-- ==== Proof.Equations.lean ====
/- The reference's operations, read off its program: one equation for each, about what the buffers hold at the end. -/
module

public import proofs.«01_k».proof.Defs
public import proofs.«01_k».proof.Proof.Line
public import proofs.«01_k».proof.Proof.Gen.ReferenceIdeal

@[expose] public section

set_option maxRecDepth 4000
set_option maxHeartbeats 1000000

noncomputable section

namespace Cert.ReferenceIdeal.Equations

open Idealize.SL.Sem Idealize.ShloMosaic Idealize.ShloMosaic.StableHlo Cert.HostLine Cert.ReferenceIdeal.Gen

/-- The labels of the program's loops. -/
abbrev Λ : Labels := Pipeline.Sig Λ₀ (Fin 0) fun p => (pcfgs (F := Ideal) p).Adm

/-- The contents of a device's buffers. -/
abbrev Mem := Valuation τ sig (Elt Ideal)

/-- The equations of a piece of the program that writes the buffers from `n` to `n'`. -/
abbrev Of (p : Prog (TpuEff nD τ sig (Elt Ideal) Λ .tc) PUnit) (n n' : ℕ) : Type :=
  {P : Mem → Prop // Line (nD := nD) (Λ := Λ) p n n' P}

/-- The clipping of the largest depth. -/
def clip : Of (fn_clip.body (.of main_v9) (.of main_cst_0) main_call0) 17 20 := by
  constructor
  · unfold fn_clip.body
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The threefry mixer, part 1. -/
def mixer0 : Of (fn_threefry2x32.body_part0 main_call1.v4 main_call1.v6 main_call1.v29 main_call1.v28 main_call1_call0) 82 142 := by
  constructor
  · unfold fn_threefry2x32.body_part0
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The threefry mixer, part 2. -/
def mixer1 : Of (fn_threefry2x32.body_part1 main_call1.v4 main_call1.v6 main_call1.v29 main_call1.v28 main_call1_call0) 142 202 := by
  constructor
  · unfold fn_threefry2x32.body_part1
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The threefry mixer, part 3. -/
def mixer2 : Of (fn_threefry2x32.body_part2 main_call1.v4 main_call1.v6 main_call1.v29 main_call1.v28 main_call1_call0) 202 262 := by
  constructor
  · unfold fn_threefry2x32.body_part2
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The threefry mixer, part 4. -/
def mixer3 : Of (fn_threefry2x32.body_part3 main_call1.v4 main_call1.v6 main_call1.v29 main_call1.v28 main_call1_call0) 262 304 := by
  constructor
  · unfold fn_threefry2x32.body_part3
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The threefry mixer. -/
def mixer : Of (fn_threefry2x32.body main_call1.v4 main_call1.v6 main_call1.v29 main_call1.v28 main_call1_call0) 82 304 := by
  constructor
  · unfold fn_threefry2x32.body
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | exact mixer0.2
      | exact mixer1.2
      | exact mixer2.2
      | exact mixer3.2
      | with_reducible apply Line.last
      | with_reducible apply Line.bind
    all_goals first | rfl | decide

/-- The uniform numbers. -/
def draw : Of (fn_uniform.body (.of main_v28) (.of main_cst_6) (.of main_cst_7) main_call1) 46 322 := by
  constructor
  · unfold fn_uniform.body
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | exact mixer.2
      | with_reducible apply Line.last
      | with_reducible apply Line.bind
    all_goals first | rfl | decide

/-- The choice between the two polynomials. -/
def pick : Of (fn_where.body (.of main_v97) (.of main_v61) (.of main_v90) main_call2) 413 414 := by
  constructor
  · unfold fn_where.body
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The ends of the interval. -/
def ends : Of (fn_where.body (.of main_v93) (.of main_v95) (.of main_v98) main_call3) 414 415 := by
  constructor
  · unfold fn_where.body
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The first largest score. -/
def largest : Of (fn_argmax.body (.of main_v106) main_call4) 424 429 := by
  constructor
  · unfold fn_argmax.body
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The indicators of the chosen categories. -/
def hot : Of (fn_one_hot.body (.of main_v107) main_call5) 429 435 := by
  constructor
  · unfold fn_one_hot.body
    repeat
      first
      | with_reducible apply Line.nullaryT
      | with_reducible apply Line.unaryT
      | with_reducible apply Line.binaryT
      | with_reducible apply Line.ternaryT
      | with_reducible apply Line.reshapeT
      | with_reducible apply Line.quaternaryT
      | exact Line.nil
      | with_reducible apply Line.last
    all_goals first | rfl | decide

/-- The first part of the program. -/
def part0 : Of (main_part0 (F := Ideal) 0) 5 342 := by
  constructor
  · unfold main_part0
    repeat
      first
      | with_reducible apply Line.nullary
      | with_reducible apply Line.unary
      | with_reducible apply Line.binary
      | with_reducible apply Line.ternary
      | with_reducible apply Line.reshape
      | with_reducible apply Line.quaternary
      | exact Line.nil
      | exact clip.2
      | exact draw.2
      | with_reducible apply Line.last
      | with_reducible apply Line.bind
    all_goals first | rfl | decide

/-- The second part of the program. -/
def part1 : Of (main_part1 (F := Ideal) 0) 342 402 := by
  constructor
  · unfold main_part1
    repeat
      first
      | with_reducible apply Line.nullary
      | with_reducible apply Line.unary
      | with_reducible apply Line.binary
      | with_reducible apply Line.ternary
      | with_reducible apply Line.reshape
      | with_reducible apply Line.quaternary
      | exact Line.nil
      | with_reducible apply Line.last
      | with_reducible apply Line.bind
    all_goals first | rfl | decide

/-- The third part of the program. -/
def part2 : Of (main_part2 (F := Ideal) 0) 402 440 := by
  constructor
  · unfold main_part2
    repeat
      first
      | with_reducible apply Line.nullary
      | with_reducible apply Line.unary
      | with_reducible apply Line.binary
      | with_reducible apply Line.ternary
      | with_reducible apply Line.reshape
      | with_reducible apply Line.quaternary
      | exact Line.nil
      | exact pick.2
      | exact ends.2
      | exact largest.2
      | exact hot.2
      | with_reducible apply Line.last
      | with_reducible apply Line.bind
    all_goals first | rfl | decide

/-- The program. -/
def whole : Of (main (F := Ideal) 0) 5 440 := by
  constructor
  · unfold main
    repeat
      first
      | with_reducible apply Line.nullary
      | with_reducible apply Line.unary
      | with_reducible apply Line.binary
      | with_reducible apply Line.ternary
      | with_reducible apply Line.reshape
      | with_reducible apply Line.quaternary
      | exact Line.nil
      | exact part0.2
      | exact part1.2
      | exact part2.2
      | with_reducible apply Line.last
      | with_reducible apply Line.bind
    all_goals first | rfl | decide

end Cert.ReferenceIdeal.Equations
-- ==== Proof.Mixer.lean ====
/- The reference's random words: what its threefry mixer leaves is the threefry state of each counter. -/
module

public import proofs.«01_k».proof.Proof.Equations
public import proofs.«01_k».proof.Proof.Sampler
public import Idealize.ShloMosaic.Lib.KernelVsHost

@[expose] public section

set_option maxRecDepth 4000
set_option maxHeartbeats 1000000

noncomputable section

namespace Cert.ReferenceIdeal.Equations

open Idealize.SL.Sem Idealize.ShloMosaic Idealize.ShloMosaic.StableHlo Cert.HostLine Cert.ReferenceIdeal.Gen Cert.Sampler

variable {s : Shape}

/-- The nine operations of a round, before the equations `R` that follow them. -/
theorem round {a b a' b' l t o f g : IVec s 32} {c d : IVec S_ 32} {r q : Word} {p : s.Idx → Word × Word} {R : Prop} {hb hb'}
    (e : a' = addi a b ∧ c = constantI S_ 32 r ∧ f = broadcastInDim s ![] hb c ∧ l = Host.shli b f ∧
      d = constantI S_ 32 q ∧ g = broadcastInDim s ![] hb' d ∧ t = Host.shrui b g ∧ o = ori l t ∧ b' = xori a' o ∧ R)
    (h : ∀ j, a j = (p j).1 ∧ b j = (p j).2) :
    (∀ j, a' j = (mix r q (p j)).1 ∧ b' j = (mix r q (p j)).2) ∧ R := by
  obtain ⟨rfl, rfl, rfl, rfl, rfl, rfl, rfl, rfl, rfl, e⟩ := e
  refine ⟨fun j => ?_, e⟩
  rw [hostShli_eq_shli, hostShrui_eq_shrui, broadcastInDim_constantI, broadcastInDim_constantI]
  exact mix_of h j

/-- The seven operations of a key injection, before the equations `R` that follow them. -/
theorem injection {a b a' b₁ b' f g w : IVec s 32} {u v c : IVec S_ 32} {k l n : Word} {p : s.Idx → Word × Word} {R : Prop}
    {hf hg hw}
    (e : f = broadcastInDim s ![] hf u ∧ a' = addi a f ∧ g = broadcastInDim s ![] hg v ∧ b₁ = addi b g ∧
      c = constantI S_ 32 n ∧ w = broadcastInDim s ![] hw c ∧ b' = addi b₁ w ∧ R)
    (hk : u = constantI S_ 32 k) (hl : v = constantI S_ 32 l) (h : ∀ j, a j = (p j).1 ∧ b j = (p j).2) :
    (∀ j, a' j = (inject k l n (p j)).1 ∧ b' j = (inject k l n (p j)).2) ∧ R := by
  subst hk hl
  obtain ⟨rfl, rfl, rfl, rfl, rfl, rfl, rfl, e⟩ := e
  refine ⟨fun j => ?_, e⟩
  rw [broadcastInDim_constantI, broadcastInDim_constantI, broadcastInDim_constantI]
  exact inject_of h j

/-- What the mixer leaves, with the key (0, 1) and counters whose high words are 0. -/
theorem mixer_state (W : Mem) (h : mixer.1 W) {lo : IVec S16x4x224x224x9 32} (k0 : val W main_call1.v4 = constantI S_ 32 0)
    (k1 : val W main_call1.v6 = constantI S_ 32 1) (hh : val W main_call1.v29 = constantI S16x4x224x224x9 32 0)
    (hl : val W main_call1.v28 = lo) :
    ∀ j : S16x4x224x224x9.Idx, val W main_call1.call0.v171 j = (state (lo j)).1 ∧ val W main_call1.call0.v175 j = (state (lo j)).2 := by
  dsimp only [mixer, mixer0, mixer1, mixer2, mixer3] at h
  simp only [and_assoc, true_and] at h
  obtain ⟨e0, e1, e2, e3, e4, e5, e6, h⟩ := h
  have k2 : val W main_call1.call0.v1 = constantI S_ 32 466688987 := by
    rw [e2, e0, e1, k0, k1]
    exact funext fun _ => show IntOp.xori (IntOp.xori 0#32 1#32) 466688986#32 = 466688987#32 by decide
  have s : ∀ j : S16x4x224x224x9.Idx, val W main_call1.call0.v3 j = ((fun j => (0, IntOp.addi (lo j) 1)) j : Word × Word).1 ∧
      val W main_call1.call0.v5 j = ((fun j => (0, IntOp.addi (lo j) 1)) j : Word × Word).2 := by
    rw [e4, e6, e3, e5, k0, k1, hh, hl]
    exact fun j => ⟨rfl, rfl⟩
  clear e0 e1 e2 e3 e4 e5 e6 hh hl
  iterate 4 replace ⟨s, h⟩ := round h s
  replace ⟨s, h⟩ := injection h k1 k2 s
  iterate 4 replace ⟨s, h⟩ := round h s
  replace ⟨s, h⟩ := injection h k2 k0 s
  iterate 4 replace ⟨s, h⟩ := round h s
  replace ⟨s, h⟩ := injection h k0 k1 s
  iterate 4 replace ⟨s, h⟩ := round h s
  replace ⟨s, h⟩ := injection h k1 k2 s
  iterate 4 replace ⟨s, h⟩ := round h s
  replace ⟨s, h⟩ := injection h k2 k0 s
  exact s

end Cert.ReferenceIdeal.Equations
-- ==== Proof.Uniform.lean ====
/- The scalars of the two programs agree: the uniform number, the inverse error function and the choice of the best score
   as the reference computes them are the ones the kernel computes. -/
module

public import proofs.«01_k».proof.Proof.Sampler
public import proofs.«01_k».proof.Defs
public import Idealize.ShloMosaic.Lib.IdealHost

@[expose] public section

noncomputable section

namespace Cert.Sampler

open Idealize.ShloMosaic

/-- The distance named in the kernel, at the reals. -/
theorem span_eq : (Named.named KernelIdeal.κ "span" 0x40000000#32 : Ideal .f32) = ((33554431 / 16777216 : ℝ) : EReal) :=
  IdealRules.named_const.ideal_named_scalar _ _ _ _ rfl

/-- The lower end of the interval, at the reals. -/
theorem lo_eq : (lit 0xBF7FFFFF#32 : Ideal .f32) = ((-(16777215 / 16777216) : ℝ) : EReal) := by
  simp [Ideal.ofBits, Ideal.ieee, -EReal.coe_mul, -EReal.coe_neg]; norm_num

/-- One, at the reals. -/
theorem one_eq : (lit 0x3F800000#32 : Ideal .f32) = ((1 : ℝ) : EReal) := by
  rw [lit, Ideal.ofBits_def, Ideal.ofBits_one_f32]; rfl

/-- The bits of a float in [1, 2): no sign, the exponent of 1, and the upper 23 bits of the word. -/
theorem mantissa_eq (b : Word) : (mantissa b).extractLsb' 31 1 = 0#1 ∧ (mantissa b).extractLsb' 23 8 = 127#8 ∧
    (mantissa b).extractLsb' 0 23 = b.extractLsb' 9 23 := by
  have h : mantissa b = b >>> 9 ||| 1065353216#32 := rfl
  rw [h]
  refine ⟨?_, ?_, ?_⟩
  · ext i hi
    obtain rfl : i = 0 := by omega
    simp
  · ext i hi
    interval_cases i <;> simp
  · ext i hi
    interval_cases i <;> simp

/-- The float in [1, 2) that a random word stands for, at the reals. -/
theorem lit_mantissa (b : Word) : ∃ t : ℕ, t < 8388608 ∧ (lit (mantissa b) : Ideal .f32) = ((1 + t / 8388608 : ℝ) : EReal) := by
  obtain ⟨h1, h2, h3⟩ := mantissa_eq b
  refine ⟨(b.extractLsb' 9 23).toNat, (b.extractLsb' 9 23).isLt, ?_⟩
  show Ideal.ieee 8 23 (mantissa b) = _
  unfold Ideal.ieee
  simp only [Nat.reduceAdd, h1, h2, h3]
  rw [if_neg (by decide), if_neg (by decide)]
  refine congrArg _ ?_
  rw [if_neg (by decide)]
  push_cast
  norm_num
  ring

/-- The uniform numbers of the kernel are `-1 + 2⁻²⁴ + t 2⁻²³ (2 - 2⁻²⁴)` for a natural `t < 2²³`. -/
theorem uniform_eq (x : Word) : ∃ t : ℕ, t < 8388608 ∧
    (uniform x : Ideal .f32) = ((t / 8388608 * (33554431 / 16777216) - 16777215 / 16777216 : ℝ) : EReal) := by
  obtain ⟨t, ht, e⟩ := lit_mantissa (bits x)
  refine ⟨t, ht, ?_⟩
  unfold uniform
  rw [e, one_eq, span_eq, lo_eq]
  simp only [Ideal.addf_def, Ideal.mulf_def, Ideal.subf_def]
  rw [← EReal.coe_sub, ← EReal.coe_mul, ← EReal.coe_add]
  congr 1; ring

/-- The reference's uniform number of a counter: the same, with the distance as a difference, and never below the lower
end. -/
def uniformRef (x : Word) : Ideal .f32 :=
  FloatOps.maximumf (lit 0xBF7FFFFF#32) (FloatOps.addf (FloatOps.mulf (FloatOps.subf (lit (mantissa (bits x))) (lit 0x3F800000#32))
    (FloatOps.subf (lit 0x3F800000#32) (lit 0xBF7FFFFF#32))) (lit 0xBF7FFFFF#32))

/-- The two uniform numbers are equal. -/
theorem uniformRef_eq (x : Word) : uniformRef x = uniform x := by
  have hs : (FloatOps.subf (lit 0x3F800000#32) (lit 0xBF7FFFFF#32) : Ideal .f32) = Named.named KernelIdeal.κ "span" 0x40000000#32 := by
    rw [span_eq, one_eq, lo_eq, Ideal.subf_def, ← EReal.coe_sub]; norm_num
  unfold uniformRef
  rw [hs]
  refine max_eq_right ?_
  change lit 0xBF7FFFFF#32 ≤ uniform x
  obtain ⟨t, ht, e⟩ := uniform_eq x
  rw [e, lo_eq, EReal.coe_le_coe_iff]
  have : (0 : ℝ) ≤ t := Nat.cast_nonneg _
  nlinarith

/-- A uniform number lies strictly between -1 and 1. -/
theorem uniform_inside (x : Word) : FloatOps.cmpf .oeq (max (uniform x) (-uniform x) : Ideal .f32) (lit 0x3F800000#32) = 0#1 := by
  obtain ⟨t, ht, e⟩ := uniform_eq x
  have h0 : (0 : ℝ) ≤ t := Nat.cast_nonneg _
  have h1 : (t : ℝ) ≤ 8388607 := by exact_mod_cast Nat.le_of_lt_succ ht
  have : max (uniform x : Ideal .f32) (-uniform x : Ideal .f32) ≠ lit 0x3F800000#32 := by
    rw [e, one_eq, ← EReal.coe_neg]
    refine ne_of_lt (max_lt ?_ ?_) <;> rw [EReal.coe_lt_coe_iff] <;> nlinarith
  exact congrArg BitVec.ofBool (decide_eq_false this)

/-- `- log (1 - u²)`, as the reference spells it. -/
def weightRef (u : Ideal .f32) : Ideal .f32 := -(Ideal.log1p (-u * u))

theorem weightRef_eq (u : Ideal .f32) : weightRef u = weight u := by
  have h0 : (lit 0 : Ideal .f32) = 0 := Ideal.ofBits_zero_f32
  show -(Ideal.log1p (-u * u)) = (lit 0 : Ideal .f32) - Ideal.log1p (u * ((lit 0 : Ideal .f32) - u))
  rw [h0, zero_sub, zero_sub, mul_comm u]

/-- One step of a polynomial, as the reference spells it. -/
def stepRef (t : Ideal .f32) (a : Word) (p : Ideal .f32) : Ideal .f32 := FloatOps.addf (FloatOps.mulf p t) (lit a)

/-- The polynomial for the middle of the interval. -/
def hornerMiddle (t : Ideal .f32) : Ideal .f32 :=
  stepRef t 0x3FC02E2F#32 (stepRef t 0x3E7C8F63#32 (stepRef t 0xBB88E4EF#32 (stepRef t 0xBAA45408#32 (stepRef t 0x396532DB#32
    (stepRef t 0xB6935AC1#32 (stepRef t 0xB66C7357#32 (stepRef t 0x34B84B36#32 (lit 0x32F16588#32))))))))

/-- The polynomial for the tails. -/
def hornerTail (t : Ideal .f32) : Ideal .f32 :=
  stepRef t 0x40354F7E#32 (stepRef t 0x3F8036DB#32 (stepRef t 0x3C1AA57E#32 (stepRef t 0xBBF9C5D7#32 (stepRef t 0x3BBC127B#32
    (stepRef t 0xBB70BDE7#32 (stepRef t 0x3AB0DC72#32 (stepRef t 0x38D3B56B#32 (lit 0xB951F09B#32))))))))

/-- The inverse error function, as the reference spells it: both polynomials, then the choice between their values, then
the ends of the interval. -/
def erfInvRef (u : Ideal .f32) : Ideal .f32 :=
  Scalar.select (FloatOps.cmpf .oeq (max u (-u) : Ideal .f32) (lit 0x3F800000#32)) (FloatOps.mulf u (lit 0x7F800000#32))
    (Scalar.select (FloatOps.cmpf .olt (weightRef u) (lit 0x40A00000#32))
      (FloatOps.mulf (hornerMiddle (FloatOps.subf (weightRef u) (lit 0x40200000#32))) u)
      (FloatOps.mulf (hornerTail (FloatOps.subf (FloatOps.sqrt (weightRef u)) (lit 0x40400000#32))) u))

/-- A step of the chosen polynomial is a step of the polynomial for the middle, -/
theorem step_one (t : Ideal .f32) (a b : Word) (p : Ideal .f32) : step 1#1 t a b p = stepRef t a p := add_comm _ _

/-- or of the polynomial for the tails. -/
theorem step_zero (t : Ideal .f32) (a b : Word) (p : Ideal .f32) : step 0#1 t a b p = stepRef t b p := add_comm _ _

/-- The polynomial chosen for the middle. -/
theorem horner_one (t : Ideal .f32) : horner 1#1 t = hornerMiddle t := by
  have h : Scalar.select 1#1 (lit 0x32F16588#32 : Ideal .f32) (lit 0xB951F09B#32) = lit 0x32F16588#32 := rfl
  rw [horner, hornerMiddle, h]; simp only [step_one]

/-- The polynomial chosen for the tails. -/
theorem horner_zero (t : Ideal .f32) : horner 0#1 t = hornerTail t := by
  have h : Scalar.select 0#1 (lit 0x32F16588#32 : Ideal .f32) (lit 0xB951F09B#32) = lit 0xB951F09B#32 := rfl
  rw [horner, hornerTail, h]; simp only [step_zero]

/-- A bit is 0 or 1. -/
theorem bit_cases (m : BitVec 1) : m = 0#1 ∨ m = 1#1 := by
  revert m; decide

theorem select_zero {α : Type} (a b : α) : Scalar.select 0#1 a b = b := rfl
theorem select_one {α : Type} (a b : α) : Scalar.select 1#1 a b = a := rfl

/-- The two inverse error functions agree at a uniform number. -/
theorem erfInvRef_eq (x : Word) : erfInvRef (uniform x) = erfInv (uniform x) := by
  rw [erfInvRef, uniform_inside, weightRef_eq, erfInv, ← middle, argument, select_zero]
  generalize middle (weight (uniform x : Ideal .f32)) = m
  obtain rfl | rfl := bit_cases m
  · rw [horner_zero, select_zero, select_zero]
  · rw [horner_one, select_one, select_one]

/-- The perturbed score, as the reference spells it. -/
def scoreRef (z : Ideal .f32) (x : Word) : Ideal .f32 :=
  FloatOps.addf z (FloatOps.mulf (lit 0x3D23D70A#32) (FloatOps.mulf (lit 0x3FB504F3#32) (erfInvRef (uniformRef x))))

/-- The two perturbed scores agree. -/
theorem scoreRef_eq (z : Ideal .f32) (x : Word) : scoreRef z x = score z x := by
  rw [scoreRef, uniformRef_eq, erfInvRef_eq, score, normal]

end Cert.Sampler
-- ==== Proof.Draw.lean ====
/- The reference's uniform numbers: the counter of each entry, and the number drawn for it. -/
module

public import proofs.«01_k».proof.Proof.Mixer
public import proofs.«01_k».proof.Proof.Uniform

@[expose] public section

set_option maxRecDepth 4000
set_option maxHeartbeats 1000000

noncomputable section

namespace Cert.ReferenceIdeal.Equations

open Idealize.SL.Sem Idealize.ShloMosaic Idealize.ShloMosaic.StableHlo Cert.HostLine Cert.ReferenceIdeal.Gen Cert.Sampler
open Idealize.ShloMosaic.ValueIdx

/-- The row-major place of an entry among the noise numbers. -/
def place (j : S16x4x224x224x9.Idx) : ℕ :=
  1806336 * (j 0).val + 451584 * (j 1).val + 2016 * (j 2).val + 9 * (j 3).val + 1 * (j 4).val

theorem place_lt (j : S16x4x224x224x9.Idx) : place j < 28901376 := by
  have h0 : (j 0).val < 16 := (j 0).isLt
  have h1 : (j 1).val < 4 := (j 1).isLt
  have h2 : (j 2).val < 224 := (j 2).isLt
  have h3 : (j 3).val < 224 := (j 3).isLt
  have h4 : (j 4).val < 9 := (j 4).isLt
  unfold place; omega

/-- The 64-bit arithmetic of the counters: no overflow, so the upper words are 0 and the lower words are the places. -/
theorem counters {c : IVec S16x4x224x224x9 64} (hc : c =
    addi (addi (addi (addi (muli (broadcast _ 1806336#64) (iotaInDim S16x4x224x224x9 64 0))
      (muli (broadcast _ 451584#64) (iotaInDim S16x4x224x224x9 64 1))) (muli (broadcast _ 2016#64) (iotaInDim S16x4x224x224x9 64 2)))
      (muli (broadcast _ 9#64) (iotaInDim S16x4x224x224x9 64 3))) (muli (broadcast _ 1#64) (iotaInDim S16x4x224x224x9 64 4))) :
    trunci 32 c natLt_32_64 = (fun j => BitVec.ofNat 32 (place j)) ∧
      trunci 32 (Host.shrui c (broadcast _ 32#64)) natLt_32_64 = constantI S16x4x224x224x9 32 0 := by
  have e : ∀ j, c j = BitVec.ofNat 64 (place j) := fun j => by
    rw [hc, place, BitVec.ofNat_add, BitVec.ofNat_add, BitVec.ofNat_add, BitVec.ofNat_add, BitVec.ofNat_mul, BitVec.ofNat_mul,
      BitVec.ofNat_mul, BitVec.ofNat_mul, BitVec.ofNat_mul]
    rfl
  refine ⟨funext fun j => ?_, funext fun j => ?_⟩
  · show (c j).setWidth 32 = _
    rw [e, BitVec.setWidth_ofNat_of_le (by decide)]
  · show (c j >>> (32#64 : BitVec 64)).setWidth 32 = 0#32
    have := place_lt j
    rw [e]
    refine BitVec.eq_of_toNat_eq ?_
    simp only [BitVec.toNat_setWidth, BitVec.toNat_ushiftRight, BitVec.ushiftRight_eq', BitVec.toNat_ofNat, Nat.shiftRight_eq_div_pow]
    norm_num
    omega

/-- The uniform numbers are those of the entries' places, from the key (0, 1) and the interval from just above -1 to 1. -/
theorem draw_uniform (W : Mem) (h : draw.1 W)
    (hk : at' W main_v28 = (fun i : S2.Idx => BitVec.ofNat 32 (i 0).val : IVec S2 32))
    (hl : at' W main_cst_6 = constant (F := Ideal) S_ .f32 0xBF7FFFFF#32) (hh : at' W main_cst_7 = constant (F := Ideal) S_ .f32 0x3F800000#32) :
    ∀ j : S16x4x224x224x9.Idx, (at' W main_v29 : FVec Ideal S16x4x224x224x9 .f32) j = uniformRef (BitVec.ofNat 32 (place j)) := by
  dsimp only [draw] at h
  obtain ⟨e0, e1, e2, e3, e4, e5, e6, e7, e8, e9, e10, e11, e12, e13, e14, e15, e16, e17, e18, e19, e20, e21, e22, e23, e24, e25,
    e26, e27, e28, e29, e30, e31, e32, e33, e34, e35, hm, f0, f1, f2, f3, f4, f5, f6, f7, f8, f9, f10, f11, f12, f13, f14, f15,
    f16, f17, -⟩ := h
  change val W (.of main_v28) = _ at hk
  change val W (.of main_cst_6) = _ at hl
  change val W (.of main_cst_7) = _ at hh
  change ∀ j, val W (.of main_v29) j = _
  rw [e12, broadcastInDim_constantI] at e13
  rw [e15, broadcastInDim_constantI] at e16
  rw [e18, broadcastInDim_constantI] at e19
  rw [e21, broadcastInDim_constantI] at e22
  rw [e24, broadcastInDim_constantI] at e25
  rw [e31, broadcastInDim_constantI] at e32
  rw [e29, e28, e27, e26, e25, e23, e22, e20, e19, e17, e16, e14, e13, e7, e8, e9, e10, e11] at e30
  have hc := counters e30
  rw [← e32, ← e33, ← e34, ← e35] at hc
  have k0 : val W main_call1.v4 = constantI S_ 32 0 := by
    refine e4.trans ?_
    rw [e3, hk]
    exact funext fun i => by rw [eq_ix0 i]; rfl
  have k1 : val W main_call1.v6 = constantI S_ 32 1 := by
    refine e6.trans ?_
    rw [e5, hk]
    exact funext fun i => by rw [eq_ix0 i]; rfl
  have s := mixer_state W hm k0 k1 hc.2 hc.1
  rw [f1, broadcastInDim_constantI] at f2
  rw [f4, broadcastInDim_constantI] at f5
  rw [f8, broadcastInDim_constant] at f9
  rw [e0, hh] at e2
  rw [hl] at e1
  rw [f0, f2, hostShrui_eq_shrui] at f3
  rw [f17, f16, f15, f14, f13, f12, f11, f10, f9, f7, f6, f5, f3, e1, e2]
  intro j
  rw [uniformRef, bits, ← (s j).1, ← (s j).2]
  rfl

end Cert.ReferenceIdeal.Equations
-- ==== Proof.Scores.lean ====
/- The reference's perturbed scores: the log-weight of each category plus the noise drawn for it. -/
module

public import proofs.«01_k».proof.Proof.Draw

@[expose] public section

set_option maxRecDepth 4000
set_option maxHeartbeats 1000000

noncomputable section

namespace Cert.ReferenceIdeal.Equations

open Idealize.SL.Sem Idealize.ShloMosaic Idealize.ShloMosaic.StableHlo Cert.HostLine Cert.ReferenceIdeal.Gen Cert.Sampler
open Idealize.ShloMosaic.ValueIdx

/-- The four operations of one step of a polynomial, before the equations `R` that follow them. -/
theorem term {s : Shape} {p t m q f : FVec Ideal s .f32} {c : FVec Ideal S_ .f32} {k : Word} {g u : s.Idx → Ideal .f32} {R : Prop} {hb}
    (e : m = mulf p t ∧ c = constant (F := Ideal) S_ .f32 k ∧ f = broadcastInDim s ![] hb c ∧ q = addf m f ∧ R)
    (hp : ∀ j, p j = g j) (ht : ∀ j, t j = u j) : (∀ j, q j = stepRef (u j) k (g j)) ∧ R := by
  obtain ⟨rfl, rfl, rfl, rfl, e⟩ := e
  refine ⟨fun j => ?_, e⟩
  rw [broadcastInDim_constant, ← hp, ← ht]
  rfl

/-- The uniform number drawn for an entry. -/
def drawn (j : S16x4x224x224x9.Idx) : Ideal .f32 := uniform (BitVec.ofNat 32 (place j))

/-- The scores, from the program's equations: each is its category's log-weight plus the noise of its place. -/
theorem scores (W : Mem) (h : whole.1 W) :
    ∀ j : S16x4x224x224x9.Idx, (at' W main_v106 : FVec Ideal S16x4x224x224x9 .f32) j
      = scoreRef ((at' W main_v21 : FVec Ideal S4x224x224x9 .f32) (ix4 (j 1) (j 2) (j 3) (j 4))) (BitVec.ofNat 32 (place j)) := by
  dsimp only [whole, part0, part1, part2] at h
  simp only [and_assoc, true_and] at h
  obtain ⟨-, -, -, -, -, -, -, -, -, -, -, -, -, -, -, -, -, -, -, -, -, -, -, -, -, -, -, h⟩ := h
  obtain ⟨k0, k1, k2, k3, k4, k5, k6, k7, k8, k9, c6, c7, hd, h⟩ := h
  have hu : ∀ j : S16x4x224x224x9.Idx, (at' W main_v29 : FVec Ideal S16x4x224x224x9 .f32) j = drawn j := by
    refine fun j => (draw_uniform W hd ?_ c6 c7 j).trans (uniformRef_eq _)
    rw [k2, k0, k1] at k3
    rw [k3] at k4
    rw [k6, k0, k5] at k7
    rw [k7] at k8
    rw [k9, k4, k8]
    refine funext fun i => ?_
    rw [eq_ix1 i]
    exact match i 0 with
      | ⟨0, h⟩ => (concatenate_pair_apply_left (t := S2) (s₁ := S1) (s₂ := S1) _ _ _ _ (ix1 ⟨0, h⟩) rfl (ix1 (n := 1) 0) fun b => by
          obtain rfl : b = 0 := Subsingleton.elim _ _
          rfl).trans (show IntOp.shrui .host 1#32 32#32 = 0#32 by decide)
      | ⟨1, h⟩ => (concatenate_pair_apply_right (t := S2) (s₁ := S1) (s₂ := S1) _ _ _ _ (ix1 ⟨1, h⟩) rfl rfl (ix1 (n := 1) 0)
          (fun b hb => absurd (Subsingleton.elim _ _) hb) rfl).trans (show IntOp.andi 1#32 4294967295#32 = 1#32 by decide)
  clear k0 k1 k2 k3 k4 k5 k6 k7 k8 k9 c6 c7 hd
  obtain ⟨e0, e1, e2, e3, e4, e5, e6, e7, e8, h⟩ := h
  have hw : ∀ j : S16x4x224x224x9.Idx, (at' W main_v33 : FVec Ideal S16x4x224x224x9 .f32) j = weightRef (drawn j) := fun j => by
    rw [e3, e2, e1, e0, weightRef, ← hu]; rfl
  have ht : ∀ j : S16x4x224x224x9.Idx, (at' W main_v35 : FVec Ideal S16x4x224x224x9 .f32) j
      = FloatOps.subf (F := Ideal) (weightRef (drawn j)) (lit 0x40200000#32) := fun j => by
    rw [e6, e5, e4, broadcastInDim_constant, ← hw]; rfl
  have hp : ∀ j : S16x4x224x224x9.Idx, (at' W main_v36 : FVec Ideal S16x4x224x224x9 .f32) j = (lit 0x32F16588#32 : Ideal .f32) := fun j => by
    rw [e8, e7, broadcastInDim_constant]; rfl
  clear e0 e1 e2 e3 e4 e5 e6 e7 e8
  iterate 8 replace ⟨hp, h⟩ := term h hp ht
  obtain ⟨e0, e1, e2, e3, e4, e5, e6, h⟩ := h
  have ht' : ∀ j : S16x4x224x224x9.Idx, (at' W main_v64 : FVec Ideal S16x4x224x224x9 .f32) j
      = FloatOps.subf (F := Ideal) (FloatOps.sqrt (weightRef (drawn j))) (lit 0x40400000#32) := fun j => by
    rw [e4, e3, e2, e1, broadcastInDim_constant, ← hw]; rfl
  have hq : ∀ j : S16x4x224x224x9.Idx, (at' W main_v65 : FVec Ideal S16x4x224x224x9 .f32) j = (lit 0xB951F09B#32 : Ideal .f32) := fun j => by
    rw [e6, e5, broadcastInDim_constant]; rfl
  clear e1 e2 e3 e4 e5 e6
  iterate 8 replace ⟨hq, h⟩ := term h hq ht'
  obtain ⟨g0, g1, g2, g3, g4, g5, g6, g7, g8, g9, g10, hpick, hends, g11, g12, g13, g14, g15, g16, g17, g18, g19, -⟩ := h
  dsimp only [pick] at hpick
  dsimp only [ends] at hends
  change at' W main_v98 = select (at' W main_v97) (at' W main_v61) (at' W main_v90) ∧ True at hpick
  change at' W main_v99 = select (at' W main_v93) (at' W main_v95) (at' W main_v98) ∧ True at hends
  rw [g2, broadcastInDim_constant] at g3
  rw [g5, broadcastInDim_constant] at g6
  rw [g8, broadcastInDim_constant] at g9
  rw [g11, broadcastInDim_constant] at g12
  rw [g14, broadcastInDim_constant] at g15
  have hz : ∀ j : S16x4x224x224x9.Idx, (at' W main_v105 : FVec Ideal S16x4x224x224x9 .f32) j
      = (at' W main_v21 : FVec Ideal S4x224x224x9 .f32) (ix4 (j 1) (j 2) (j 3) (j 4)) := fun j => by
    rw [g18, g17]
    refine (broadcastInDim_apply _ _ _ j (ix5 (0 : Fin 1) (j 1) (j 2) (j 3) (j 4)) fun a => ?_).trans
      (broadcastInDim_apply _ _ _ _ _ fun a => ?_)
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
  intro j
  have hn : (at' W main_v99 : FVec Ideal S16x4x224x224x9 .f32) j = erfInvRef (drawn j) := by
    rw [hends.1, hpick.1, g4, g3, g1, g7, g6, g10, g9, g0, e0, erfInvRef, hornerMiddle, hornerTail, ← hq j, ← hp j, ← hw j, ← hu j]
    rfl
  rw [scoreRef, uniformRef_eq, ← drawn, ← hn, ← hz, g19, g16, g15, g13, g12]
  rfl

end Cert.ReferenceIdeal.Equations
-- ==== Proof.Best.lean ====
/- The reference's choice of a category: its reduction over the nine scores finds the first largest one. -/
module

public import proofs.«01_k».proof.Proof.Equations
public import proofs.«01_k».proof.Proof.Uniform
public import Idealize.ShloMosaic.Lib.Pointwise.Reduce

@[expose] public section

set_option maxRecDepth 4000
set_option maxHeartbeats 1000000

noncomputable section

namespace Cert.Sampler

open Idealize.ShloMosaic Cert.ReferenceIdeal Cert.ReferenceIdeal.Gen

/-- A score with its category, ordered by the score and then by the category, the lower one being the better. -/
abbrev Candidate := EReal ×ₗ (Fin 9)ᵒᵈ

/-- A candidate. -/
abbrev candidate (v : EReal) (k : Fin 9) : Candidate := toLex (v, OrderDual.toDual k)

/-- A candidate as the programs hold it: the score and the category's word. -/
def held (a : Candidate) : Ideal .f32 × Word := ((ofLex a).1, BitVec.ofNat 32 (OrderDual.ofDual (ofLex a).2).val)

/-- The order of two candidates. -/
theorem candidate_le (v w : EReal) (k l : Fin 9) : candidate v k ≤ candidate w l ↔ v < w ∨ v = w ∧ l ≤ k := Prod.Lex.toLex_le_toLex

/-- The order of two categories' words. -/
theorem slt_iff : ∀ k l : Fin 9, IntOp.cmpi .slt (BitVec.ofNat 32 k.val) (BitVec.ofNat 32 l.val) = BitVec.ofBool (decide (k < l)) := by
  decide

/-- The comparisons of the programs, at the extended reals. -/
theorem ogt_eq (v w : EReal) : FloatOps.cmpf (F := Ideal) (φ := .f32) .ogt v w = BitVec.ofBool (decide (w < v)) := rfl
theorem une_eq (v w : EReal) : FloatOps.cmpf (F := Ideal) (φ := .f32) .une v w = BitVec.ofBool (decide (v ≠ w)) := rfl
theorem oeq_eq (v w : EReal) : FloatOps.cmpf (F := Ideal) (φ := .f32) .oeq v w = BitVec.ofBool (decide (v = w)) := rfl

/-- The body of the reference's reduction keeps the better candidate. -/
theorem reducer_held (a b : Candidate) : reducer_argmax_f32_i32 (F := Ideal) (held a) (held b) = held (max a b) := by
  obtain ⟨v, k, rfl⟩ : ∃ v k, candidate v k = a := ⟨(ofLex a).1, OrderDual.ofDual (ofLex a).2, rfl⟩
  obtain ⟨w, l, rfl⟩ : ∃ w l, candidate w l = b := ⟨(ofLex b).1, OrderDual.ofDual (ofLex b).2, rfl⟩
  have hs := slt_iff k l
  rcases lt_trichotomy v w with h | rfl | h
  · rw [max_eq_right ((candidate_le _ _ _ _).2 (Or.inl h))]
    simp [reducer_argmax_f32_i32, held, ogt_eq, une_eq, oeq_eq, IntOp.ori, IntOp.andi, Scalar.select, h.ne, h.le, h.not_gt]
  · rcases lt_or_ge k l with hk | hk
    · rw [max_eq_left ((candidate_le _ _ _ _).2 (Or.inr ⟨rfl, hk.le⟩))]
      simp [reducer_argmax_f32_i32, held, ogt_eq, une_eq, oeq_eq, IntOp.ori, IntOp.andi, Scalar.select, hs, hk]
    · rw [max_eq_right ((candidate_le _ _ _ _).2 (Or.inr ⟨rfl, hk⟩))]
      simp [reducer_argmax_f32_i32, held, ogt_eq, une_eq, oeq_eq, IntOp.ori, IntOp.andi, Scalar.select, hs, hk.not_gt]
  · rw [max_eq_left ((candidate_le _ _ _ _).2 (Or.inl h))]
    simp [reducer_argmax_f32_i32, held, ogt_eq, une_eq, oeq_eq, IntOp.ori, IntOp.andi, Scalar.select, h, h.ne']

/-- The kernel's step keeps the better candidate, when the newcomer's category is the later one. -/
theorem better_held (a : Candidate) (v : EReal) (k : Fin 9) (h : OrderDual.ofDual (ofLex a).2 < k) :
    better (F := Ideal) (BitVec.ofNat 32 k.val) v (held a) = held (max a (candidate v k)) ∧
      OrderDual.ofDual (ofLex (max a (candidate v k))).2 ≤ k := by
  obtain ⟨w, l, rfl⟩ : ∃ w l, candidate w l = a := ⟨(ofLex a).1, OrderDual.ofDual (ofLex a).2, rfl⟩
  change l < k at h
  rcases lt_or_ge w v with hv | hv
  · rw [max_eq_right ((candidate_le _ _ _ _).2 (Or.inl hv))]
    exact ⟨by simp [better, held, ogt_eq, une_eq, oeq_eq, Scalar.select, hv], le_rfl⟩
  · rw [max_eq_left ((candidate_le _ _ _ _).2 (hv.lt_or_eq.imp id fun e => ⟨e, h.le⟩))]
    exact ⟨by simp [better, held, ogt_eq, une_eq, oeq_eq, Scalar.select, hv.not_gt], h.le⟩

/-- The kernel's choice is the greatest of the nine candidates. -/
theorem best_held (v : Fin 9 → EReal) :
    best (F := Ideal) v = (held (max (max (max (max (max (max (max (max (candidate (v 0) 0) (candidate (v 1) 1)) (candidate (v 2) 2))
      (candidate (v 3) 3)) (candidate (v 4) 4)) (candidate (v 5) 5)) (candidate (v 6) 6)) (candidate (v 7) 7))
      (candidate (v 8) 8))).2 := by
  obtain ⟨e1, h1⟩ := better_held (candidate (v 0) 0) (v 1) 1 (show (0 : Fin 9) < 1 by decide)
  obtain ⟨e2, h2⟩ := better_held _ (v 2) 2 (h1.trans_lt (by decide))
  obtain ⟨e3, h3⟩ := better_held _ (v 3) 3 (h2.trans_lt (by decide))
  obtain ⟨e4, h4⟩ := better_held _ (v 4) 4 (h3.trans_lt (by decide))
  obtain ⟨e5, h5⟩ := better_held _ (v 5) 5 (h4.trans_lt (by decide))
  obtain ⟨e6, h6⟩ := better_held _ (v 6) 6 (h5.trans_lt (by decide))
  obtain ⟨e7, h7⟩ := better_held _ (v 7) 7 (h6.trans_lt (by decide))
  obtain ⟨e8, h8⟩ := better_held _ (v 8) 8 (h7.trans_lt (by decide))
  rw [← e8, ← e7, ← e6, ← e5, ← e4, ← e3, ← e2, ← e1]
  rfl

/-- The reference's choice, over the last axis of the scores: at each position the kernel's choice of its nine scores. -/
theorem argmax_eq (x : FVec Ideal S16x4x224x224x9 .f32) (s : Fin 16) (a : Fin 4) (r l : Fin 224) :
    (Host.argReduce reducer_argmax_f32_i32 x (iotaInDim S16x4x224x224x9 32 4) (constant (F := Ideal) S_ .f32 0xFF800000#32)
      (constantI S_ 32 0#32) reducesTo_S16x4x224x224x9_S16x4x224x224_d4 h_S_ (ValueIdx.ix4 s a r l)).2
      = best (F := Ideal) fun k => x (ValueIdx.ix5 s a r l k) := by
  have hb : (constant (F := Ideal) S_ .f32 0xFF800000#32 (Shape.Idx.first h_S_), constantI S_ 32 0#32 (Shape.Idx.first h_S_))
      = held (candidate ⊥ 0) := by
    refine Prod.ext ?_ rfl
    show Ideal.ofBits .f32 0xFF800000#32 = ⊥
    simp [Ideal.ofBits, Ideal.ieee]
  rw [Ideal.argReduce_eq_reduce2, Host.reduce2, hb, best_held]
  have hf : ∀ (L : List (Fin S16x4x224x224x9.numel)) (c : Candidate),
      L.foldl (fun p n => reducer_argmax_f32_i32 p (x (S16x4x224x224x9.rowMajor.symm n),
          iotaInDim S16x4x224x224x9 32 4 (S16x4x224x224x9.rowMajor.symm n))) (held c)
        = held (L.foldl (fun p n => max p ((fun i : S16x4x224x224x9.Idx => candidate (x i) (show Fin 9 from i 4)) (S16x4x224x224x9.rowMajor.symm n))) c) :=
    fun L c => List.foldl_hom held fun p n => (reducer_held p (candidate _ (S16x4x224x224x9.rowMajor.symm n 4)))
  rw [hf]
  refine congrArg (fun c => (held c).2) ((Shape.foldl_filter_rowMajor_eq_fold _ max _
    (fun i : S16x4x224x224x9.Idx => candidate (x i) (show Fin 9 from i 4)) _).trans
    ((Shape.ReducesTo.fold_fiber_r5_a4 reducesTo_S16x4x224x224x9_S16x4x224x224_d4 _ max _ _).trans ?_))
  change max (candidate (x (ValueIdx.ix5 s a r l 0)) 0) (max (candidate (x (ValueIdx.ix5 s a r l 1)) 1)
    (max (candidate (x (ValueIdx.ix5 s a r l 2)) 2) (max (candidate (x (ValueIdx.ix5 s a r l 3)) 3)
    (max (candidate (x (ValueIdx.ix5 s a r l 4)) 4) (max (candidate (x (ValueIdx.ix5 s a r l 5)) 5)
    (max (candidate (x (ValueIdx.ix5 s a r l 6)) 6) (max (candidate (x (ValueIdx.ix5 s a r l 7)) 7)
    (max (candidate (x (ValueIdx.ix5 s a r l 8)) 8) (candidate ⊥ 0))))))))) = _
  have h0 : candidate ⊥ 0 ≤ candidate (x (ValueIdx.ix5 s a r l 0)) 0 :=
    (candidate_le _ _ _ _).2 ((bot_le (α := EReal) (a := x (ValueIdx.ix5 s a r l 0))).lt_or_eq.imp id fun e => ⟨e, le_rfl⟩)
  simp only [← max_assoc]
  exact max_eq_left (h0.trans (by simp only [max_assoc]; exact le_max_left _ _))

end Cert.Sampler
-- ==== Proof.Result.lean ====
/- What the reference's result holds: for each pixel and category, the share of the samples in which it is chosen. -/
module

public import proofs.«01_k».proof.Proof.Scores
public import proofs.«01_k».proof.Proof.Best
public import proofs.«01_k».proof.Proof.Weights

@[expose] public section

set_option maxRecDepth 4000
set_option maxHeartbeats 1000000

noncomputable section

namespace Cert.ReferenceIdeal.Equations

open Idealize.ShloMosaic hiding ix1 ix2 ix3 ix4 ix5
open Idealize.SL.Sem Idealize.ShloMosaic.StableHlo Cert.HostLine Cert.ReferenceIdeal.Gen Cert.Sampler
open Idealize.ShloMosaic.ValueIdx

/-- The indicator of a choice, whatever the places it stands in. -/
theorem indicator {h0 h2 h3} (c : IVec S16x4x224x224 32) (s : Fin 16) (a : Fin 4) (r l : Fin 224) (k : Fin 9) :
    (uitofp .f32 (cmpi .eq (broadcastInDim S16x4x224x224x9 ![0, 1, 2, 3, 4] h2 (broadcastInDim S16x4x224x224x1 ![0, 1, 2, 3] h0 c))
      (broadcastInDim S16x4x224x224x9 ![0, 1, 2, 3, 4] h3 (iotaInDim S1x1x1x1x9 32 4))) : FVec Ideal S16x4x224x224x9 .f32) (ix5 s a r l k)
      = hit (c (ix4 s a r l)) (BitVec.ofNat 32 k.val) := by
  refine congrArg (FloatOps.uitofp (F := Ideal) .f32) (congrArg₂ (IntOp.cmpi .eq) ?_ ?_)
  · refine (broadcastInDim_apply _ _ _ _ (ix5 s a r l (0 : Fin 1)) fun b => ?_).trans (broadcastInDim_apply _ _ _ _ (ix4 s a r l) fun b => ?_)
    · match b with
      | ⟨0, _⟩ => rfl
      | ⟨1, _⟩ => rfl
      | ⟨2, _⟩ => rfl
      | ⟨3, _⟩ => rfl
      | ⟨4, _⟩ => rfl
    · match b with
      | ⟨0, _⟩ => rfl
      | ⟨1, _⟩ => rfl
      | ⟨2, _⟩ => rfl
      | ⟨3, _⟩ => rfl
  · refine (broadcastInDim_apply _ _ _ _ (ix5 (0 : Fin 1) (0 : Fin 1) (0 : Fin 1) (0 : Fin 1) k) fun b => ?_).trans (iotaInDim_apply 32 4 (ix5 0 0 0 0 k))
    match b with
    | ⟨0, _⟩ => rfl
    | ⟨1, _⟩ => rfl
    | ⟨2, _⟩ => rfl
    | ⟨3, _⟩ => rfl
    | ⟨4, _⟩ => rfl

/-- The choice made for a pixel in a sample, from the program's equations. -/
theorem chosen (W : Mem) (h : whole.1 W) (s : Fin 16) (a : Fin 4) (r l : Fin 224) :
    best (F := Ideal) (fun k => (at' W main_v106 : FVec Ideal S16x4x224x224x9 .f32) (ix5 s a r l k))
      = choice (F := Ideal) (fun k => (at' W main_v21 : FVec Ideal S4x224x224x9 .f32) (ix4 a r l k)) (base s.val a.val r.val l.val) := by
  unfold choice
  refine congrArg best (funext fun k => ?_)
  rw [scores W h, scoreRef_eq]
  refine congrArg (score _) ?_
  show BitVec.ofNat 32 (1806336 * s.val + 451584 * a.val + 2016 * r.val + 9 * l.val + 1 * k.val) = BitVec.ofNat 32 _ + BitVec.ofNat 32 _
  rw [one_mul, BitVec.ofNat_add]

/-- The result: each pixel's shares. -/
theorem result (W : Mem) (h : whole.1 W) (a : Fin 4) (r l : Fin 224) (k : Fin 9) :
    (at' W main_v111 : FVec Ideal S4x224x224x9 .f32) (ix4 a r l k)
      = share (fun k => (at' W main_v21 : FVec Ideal S4x224x224x9 .f32) (ix4 a r l k)) a.val r.val l.val (BitVec.ofNat 32 k.val) := by
  have hs := chosen W h
  dsimp only [whole, part0, part1, part2] at h
  simp only [and_assoc, true_and] at h
  iterate 142 replace h := h.2
  obtain ⟨hl, ho, e0, e1, e2, e3, e4, -⟩ := h
  dsimp only [largest] at hl
  dsimp only [hot] at ho
  obtain ⟨l0, l1, l2, l3, l4, -⟩ := hl
  obtain ⟨o0, o1, o2, o3, o4, o5, -⟩ := ho
  change at' W main_v107 = _ at l4
  change at' W main_v108 = _ at o5
  have hv : ∀ s : Fin 16, (at' W main_v107 : IVec S16x4x224x224 32) (ix4 s a r l) = choice (F := Ideal) (fun k => (at' W main_v21 : FVec Ideal S4x224x224x9 .f32) (ix4 a r l k))
      (base s.val a.val r.val l.val) := fun s => by
    rw [l4, l0, l1, l2, ← hs, ← argmax_eq]
    rfl
  have hi : ∀ s : Fin 16, (at' W main_v108 : FVec Ideal S16x4x224x224x9 .f32) (ix5 s a r l k)
      = hit ((at' W main_v107 : IVec S16x4x224x224 32) (ix4 s a r l)) (BitVec.ofNat 32 k.val) := fun s => by
    rw [o5, o4, o3, o2, o1, o0, ← indicator]
    rfl
  rw [e4, e3, e2, e1, e0, share, broadcastInDim_constant]
  show Ideal.div (Host.reduceAdd (F := Ideal) (φ := .f32) (at' W main_v108 : FVec Ideal S16x4x224x224x9 .f32) _ reducesTo_S16x4x224x224x9_S4x224x224x9_d0 h_S_ (ix4 a r l k)) (Ideal.ofBits .f32 0x41800000#32) = _
  have h16 : Ideal.ofBits .f32 0x41800000#32 = ((16 : ℝ) : EReal) := by
    simp [Ideal.ofBits, Ideal.ieee, -EReal.coe_mul]
    norm_num
  rw [h16, Ideal.div_coe (by norm_num), hostReduceAdd_apply, Ideal.hostReduceAdd_r5_a0]
  refine congrArg (· * ((1 / 16 : ℝ) : EReal)) ?_
  show Ideal.ofBits .f32 0x00000000#32 + _ = _
  rw [Ideal.ofBits_zero_f32, zero_add]
  refine Finset.sum_congr rfl fun s _ => ?_
  rw [← hv]
  exact hi s

end Cert.ReferenceIdeal.Equations
-- ==== Proof.LogWeights.lean ====
/- The log-weights that the reference computes. -/
module

public import proofs.«01_k».proof.Proof.Scores
public import proofs.«01_k».proof.Proof.Weights
public import Idealize.ShloMosaic.Lib.Pointwise.Reduce
public import Idealize.ShloMosaic.Lib.Pipeline.Value

@[expose] public section

set_option maxRecDepth 4000
set_option maxHeartbeats 1000000

noncomputable section

namespace Cert.ReferenceIdeal.Equations

open Idealize.ShloMosaic hiding ix1 ix2 ix3 ix4 ix5
open Idealize.SL.Sem Idealize.ShloMosaic.StableHlo Cert.HostLine Cert.ReferenceIdeal.Gen Cert.Sampler
open Idealize.ShloMosaic.ValueIdx

/-- A one-element array spread over all pixels and faces. -/
theorem spread {h h'} (x : FVec Ideal S1 .f32) : broadcastInDim S4x224x224x8 ![0, 1, 2, 3] h (broadcastInDim S1x1x1x1 ![3] h' x)
    = fun _ => x (ix1 0) := funext fun j => by
  refine (broadcastInDim_apply _ _ _ j (ix4 (0 : Fin 1) (0 : Fin 1) (0 : Fin 1) (0 : Fin 1)) fun a => ?_).trans
    (broadcastInDim_apply _ _ _ _ _ fun a => ?_)
  · match a with
    | ⟨0, _⟩ => rfl
    | ⟨1, _⟩ => rfl
    | ⟨2, _⟩ => rfl
    | ⟨3, _⟩ => rfl
  · match a with
    | ⟨0, _⟩ => rfl

/-- The greatest of the eight entries of a pixel, from minus infinity. -/
theorem greatest (x : FVec Ideal S4x224x224x8 .f32) (a : Fin 4) (r l : Fin 224) :
    max (lit 0x2EDBE6FF#32 : Ideal .f32) (Host.reduce FloatOps.maximumf x (constant (F := Ideal) S_ .f32 0xFF800000#32)
      reducesTo_S4x224x224x8_S4x224x224_d3 h_S_ (ix3 a r l)) = deepest fun k => x (ix4 a r l k) := by
  have hb : constant (F := Ideal) S_ .f32 0xFF800000#32 (Shape.Idx.first h_S_) = (⊥ : EReal) := by
    show Ideal.ofBits .f32 0xFF800000#32 = ⊥
    simp [Ideal.ofBits, Ideal.ieee]
  rw [Ideal.maximumf_eq_max, Host.reduce_eq_fold, hb, Shape.ReducesTo.fold_fiber_r4_a3 reducesTo_S4x224x224x8_S4x224x224_d3]
  change max _ (max (x (ix4 a r l 0)) (max (x (ix4 a r l 1)) (max (x (ix4 a r l 2)) (max (x (ix4 a r l 3)) (max (x (ix4 a r l 4))
    (max (x (ix4 a r l 5)) (max (x (ix4 a r l 6)) (max (x (ix4 a r l 7)) ⊥)))))))) = max (max (max (max (max (max (max (max
    (x (ix4 a r l 0)) (x (ix4 a r l 1))) (x (ix4 a r l 2))) (x (ix4 a r l 3))) (x (ix4 a r l 4))) (x (ix4 a r l 5)))
    (x (ix4 a r l 6))) (x (ix4 a r l 7))) _
  rw [max_comm, max_bot_right]
  simp only [max_assoc]

/-- The log-weights, from the program's equations. -/
theorem log_weights (W : Mem) (h : whole.1 W) (a : Fin 4) (r l : Fin 224) (k : Fin 9) :
    (at' W main_v21 : FVec Ideal S4x224x224x9 .f32) (ix4 a r l k)
      = weights ((at' W main_arg1 : FVec Ideal S1 .f32) (ix1 0)) ((at' W main_arg2 : FVec Ideal S1 .f32) (ix1 0))
        (fun k => (at' W main_arg0 : FVec Ideal S4x224x224x8 .f32) (ix4 a r l k))
        (fun k => (at' W main_arg3 : FVec Ideal S4x224x224x8 .f32) (ix4 a r l k))
        (fun k => (at' W main_arg4 : FVec Ideal S4x224x224x8 .f32) (ix4 a r l k)) k := by
  dsimp only [whole, part0, part1, part2] at h
  simp only [and_assoc, true_and] at h
  obtain ⟨e0, e1, e2, e3, e4, e5, e6, e7, e8, e9, e10, e11, hc, e12, e13, e14, e15, e16, e17, e18, e19, e20, e21, e22, e23, e24, e25, -⟩ := h
  dsimp only [clip] at hc
  obtain ⟨c0, c1, c2, -⟩ := hc
  rw [e0, spread] at e1
  rw [e4, spread] at e5
  have hd : ∀ k : Fin 8, (at' W main_v7 : FVec Ideal S4x224x224x8 .f32) (ix4 a r l k)
      = depth ((at' W main_arg1 : FVec Ideal S1 .f32) (ix1 0)) ((at' W main_arg2 : FVec Ideal S1 .f32) (ix1 0))
        ((at' W main_arg0 : FVec Ideal S4x224x224x8 .f32) (ix4 a r l k)) ((at' W main_arg4 : FVec Ideal S4x224x224x8 .f32) (ix4 a r l k)) := fun k => by
    rw [e7, e6, e5, e3, e2, e1]
    rfl
  change val W (.of main_cst_0) = _ at e11
  rw [c0, e11, id, broadcastInDim_constant] at c1
  change (at' W main_v10 : FVec Ideal S4x224x224x1 .f32)
    = (maximumf (F := Ideal) (φ := .f32) (s := S4x224x224x1) (val W main_call0.v1) (at' W main_v9) : FVec Ideal S4x224x224x1 .f32) at c2
  have hm : (at' W main_v10 : FVec Ideal S4x224x224x1 .f32) (ix4 a r l 0) = deepest fun k => (at' W main_v7 : FVec Ideal S4x224x224x8 .f32) (ix4 a r l k) := by
    rw [c2, c1, e10, e9, e8, ← greatest]
    refine congrArg (max (α := EReal) _) (broadcastInDim_apply _ _ _ _ (ix3 a r l) fun b => ?_)
    match b with
    | ⟨0, _⟩ => rfl
    | ⟨1, _⟩ => rfl
    | ⟨2, _⟩ => rfl
  rw [funext hd] at hm
  rw [e25]
  refine Fin.lastCases ?_ (fun k => ?_) k
  · refine (concatenate_pair_apply_right (t := S4x224x224x9) (s₁ := S4x224x224x8) (s₂ := S4x224x224x1) 3 _ _ _ _ rfl rfl (ix4 a r l (0 : Fin 1))
      (fun b hb => ?_) rfl).trans ?_
    · match b, hb with
      | ⟨0, _⟩, _ => rfl
      | ⟨1, _⟩, _ => rfl
      | ⟨2, _⟩, _ => rfl
      | ⟨3, _⟩, hb => exact absurd rfl hb
    · refine Eq.trans ?_ (weights_last ..).symm
      rw [e24, e23, e20, e19, e22, e21, broadcastInDim_constant, broadcastInDim_constant, ← hm]
      refine congrArg (· - (at' W main_v10 : FVec Ideal S4x224x224x1 .f32) (ix4 a r l 0)) ?_
      show Ideal.ofBits .f32 0x3F800000#32 * lit 0x2EDBE6FF#32 = _
      rw [Ideal.ofBits_one_f32, one_mul]
  · refine (concatenate_pair_apply_left (t := S4x224x224x9) (s₁ := S4x224x224x8) (s₂ := S4x224x224x1) 3 _ _ _ _ rfl (ix4 a r l k)
      (fun b => ?_)).trans ?_
    · match b with
      | ⟨0, _⟩ => rfl
      | ⟨1, _⟩ => rfl
      | ⟨2, _⟩ => rfl
      | ⟨3, _⟩ => rfl
    · rw [weights_face, ← hm, ← hd, logWeight]
      have hb : (at' W main_v15 : FVec Ideal S4x224x224x8 .f32) (ix4 a r l k) = (at' W main_v10 : FVec Ideal S4x224x224x1 .f32) (ix4 a r l 0) := by
        rw [e17]
        refine broadcastInDim_apply _ _ _ _ _ fun b => ?_
        match b with
        | ⟨0, _⟩ => rfl
        | ⟨1, _⟩ => rfl
        | ⟨2, _⟩ => rfl
        | ⟨3, _⟩ => rfl
      rw [← hb, e18, e16, e15, e14, e13, e12, broadcastInDim_constant]
      rfl

end Cert.ReferenceIdeal.Equations
-- ==== Proof.Agreement.lean ====
/- The reference's run, and its agreement with the kernel. -/
module

public import proofs.«01_k».proof.Proof.Array
public import proofs.«01_k».proof.Proof.Result
public import proofs.«01_k».proof.Proof.LogWeights
public import Idealize.ShloMosaic.Lib.Quiescent
public import Idealize.ShloMosaic.Lib.Claim

@[expose] public section

noncomputable section

namespace Cert.Agreement

open Idealize.ShloMosaic hiding ix1 ix2 ix3 ix4 ix5
open Idealize.SL.Sem Idealize.ShloMosaic.ValueIdx Idealize.ShloMosaic.TcCoe Cert.HostLine Cert.Sampler

/-- The shares that both programs compute, from the contents of the arguments. -/
def shares (zb : Vec Ideal Cert.ReferenceIdeal.S4x224x224x8 .f32) (zf zn : Vec Ideal Cert.ReferenceIdeal.S1 .f32)
    (pm mk : Vec Ideal Cert.ReferenceIdeal.S4x224x224x8 .f32) : Vec Ideal Cert.ReferenceIdeal.S4x224x224x9 .f32 := fun i =>
  share (weights (zf (ix1 0)) (zn (ix1 0)) (fun k => zb (ix4 (i 0) (i 1) (i 2) k)) (fun k => pm (ix4 (i 0) (i 1) (i 2) k))
    (fun k => mk (ix4 (i 0) (i 1) (i 2) k))) (i 0).val (i 1).val (i 2).val (BitVec.ofNat 32 (i 3).val)

/-- An index of the result is the index with its four coordinates. -/
theorem ix4_eta (i : Cert.ReferenceIdeal.S4x224x224x9.Idx) : i = ix4 (i 0) (i 1) (i 2) (i 3) :=
  funext fun a => match a with | ⟨0, _⟩ => rfl | ⟨1, _⟩ => rfl | ⟨2, _⟩ => rfl | ⟨3, _⟩ => rfl

namespace Reference

open Cert.ReferenceIdeal Cert.ReferenceIdeal.Equations

variable (m : (ℓ : Loc nD τ sig) → Buf (Elt Ideal) ℓ) (ρ : Dev nD → PrngReg)

/-- The reference runs to the shares, its arguments unchanged and every counter at zero. -/
theorem run : θ_run (defs (F := Ideal)) (onTc (τ := τ) (main (F := Ideal))) ⟨m, fun _ => 0, ρ⟩ fun r => (∀ c : Dev nD,
      r.2.mem ((c.tc : Thread nD τ).loc main_v111) = shares (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 := by
  refine θ_run_mono (Line.run defs main (fun d => (whole.2 : Line (main d) 5 440 whole.1)) (by decide) (by decide) m ρ)
    fun r h => ⟨fun c => ?_, sem_eq_zero_of_no_sems (by decide) r.2⟩
  obtain ⟨W, hW, hP, hA⟩ := h c
  have a0 := hA main_arg0 (by decide)
  have a1 := hA main_arg1 (by decide)
  have a2 := hA main_arg2 (by decide)
  have a3 := hA main_arg3 (by decide)
  have a4 := hA main_arg4 (by decide)
  refine ⟨(hW main_v111).trans (funext fun i => ?_), (hW _).trans a0, (hW _).trans a1, (hW _).trans a2, (hW _).trans a3, (hW _).trans a4⟩
  rw [ix4_eta i, ← a0, ← a1, ← a2, ← a3, ← a4]
  refine (result W hP (i 0) (i 1) (i 2) (i 3)).trans ?_
  exact congrArg (fun z => share z (i 0).val (i 1).val (i 2).val (BitVec.ofNat 32 (i 3).val))
    (funext fun k => log_weights W hP (i 0) (i 1) (i 2) k)

end Reference

namespace Kernel

open Cert.KernelIdeal

variable (m : (ℓ : Loc nD τ sig) → Buf (Elt Ideal) ℓ) (ρ : Dev nD → PrngReg)

/-- The kernel's program runs to the shares, its arguments unchanged. -/
theorem run : θ_run (defs (F := Ideal)) (onTc (τ := τ) (main (F := Ideal))) ⟨m, fun _ => 0, ρ⟩ fun r => ∀ c : Dev nD,
      r.2.mem ((c.tc : Thread nD τ).loc main_v12) = shares (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Value.run m ρ) fun r h c => ⟨(h c).1.trans (funext fun i => by
    rw [ix4_eta i]
    exact Block.result_at m c (i 0) (i 1) (i 2) (i 3)), (h c).2⟩

end Kernel

/-- From the same arguments the kernel and the reference end with the same result. -/
theorem algebraic : Cert.algebraic_KernelIdeal_ReferenceIdeal (hKernelIdeal := Cert.KernelIdeal.Gen.facts) (hReferenceIdeal := Cert.ReferenceIdeal.Gen.facts) := by
  intro m g m' g' _ hm
  refine ⟨_, Kernel.run m g, θ_run_mono (Reference.run m' g') fun r h c => ⟨(h.1 c).1.trans ?_, (h.1 c).2⟩⟩
  obtain ⟨e0, e1, e2, e3, e4⟩ := hm c
  rw [← e0, ← e1, ← e2, ← e3, ← e4]

/-- The reference runs, its arguments unchanged and every counter at zero. -/
theorem frame_reference : Cert.quiescent_ReferenceIdeal (hReferenceIdeal := Cert.ReferenceIdeal.Gen.facts) := fun m ρ _ =>
  θ_run_mono (Reference.run m ρ) fun _ h => ⟨fun c => (h.1 c).2, h.2⟩

end Cert.Agreement
-- ==== Proof.lean ====
/- The proof of the certificate's claim: the frames of the kernel, its idealization and the reference, the idealization's
   one named constant, and the equality of the kernel's and the reference's results at the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.ReferenceIdeal
public import proofs.«01_k».proof.Proof.Agreement
public import Idealize.ShloMosaic.Adequacy
public import Idealize.ShloMosaic.Init

@[expose] public section

noncomputable section

namespace Cert.Proof

open Idealize.ShloMosaic Idealize.SL.Sem

/-- The claim: the three frames, the idealization's named constant, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Agreement.frame_reference,
  IdealRules.named_const.statement Cert.KernelIdeal.κ "span" .f32 0x40000000#32 ((33554431 / 16777216 : ℝ) : EReal) rfl,
  Cert.Agreement.algebraic⟩

end Cert.Proof

end
